-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩
abbrev S2x512x16384 : Shape := ⟨3, ![2, 512, 16384]⟩
abbrev S2x512x512 : Shape := ⟨3, ![2, 512, 512]⟩
abbrev S1024x768 : Shape := ⟨2, ![1024, 768]⟩
abbrev S1024x512 : Shape := ⟨2, ![1024, 512]⟩
abbrev S31x32x768 : Shape := ⟨3, ![31, 32, 768]⟩
abbrev S31 : Shape := ⟨1, ![31]⟩
abbrev S512x512 : Shape := ⟨2, ![512, 512]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1 : Shape := ⟨1, ![1]⟩
abbrev S1x32x768 : Shape := ⟨3, ![1, 32, 768]⟩
abbrev S32x768 : Shape := ⟨2, ![32, 768]⟩

abbrev nBuf : Space → Nat
  | .hbm => 37
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x256x64, .bf16⟩
  | .hbm, ⟨3, _⟩ => ⟨S2x512x256x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x16384, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x512, .bf16⟩
  | .hbm, ⟨22, _⟩ => ⟨S2x512x16384, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x512, .bf16⟩
  | .hbm, ⟨33, _⟩ => ⟨S1024x768, .bf16⟩
  | .hbm, ⟨34, _⟩ => ⟨S1024x768, .bf16⟩
  | .hbm, ⟨35, _⟩ => ⟨S2x512x768, .bf16⟩
  | .hbm, ⟨36, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S2x512x512, .bf16⟩
  | .local _ .vmem, ⟨3, _⟩ => ⟨S2x512x512, .bf16⟩
  | .local _ .vmem, ⟨4, _⟩ => ⟨S512x768, .bf16⟩
  | .local _ .vmem, ⟨5, _⟩ => ⟨S1024x768, .bf16⟩
  | .local _ .vmem, ⟨6, _⟩ => ⟨S1024x512, .bf16⟩
  | .local _ .vmem, ⟨7, _⟩ => ⟨S1024x512, .bf16⟩
  | .local _ .vmem, ⟨8, _⟩ => ⟨S1024x768, .bf16⟩
  | .local _ .vmem, ⟨9, _⟩ => ⟨S31x32x768, .bf16⟩
  | _, _ => ⟨S2x512x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  v5.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_3 : BitVec 32 := 32#32
  let v7 : BitVec 32 := Scalar.remsi v6 c32_i32_3
  v7.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_5 : BitVec 32 := 32#32
  let v9 : BitVec 32 := Scalar.remsi v8 c32_i32_5
  v9.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_7 : BitVec 32 := 32#32
  let v11 : BitVec 32 := Scalar.remsi v10 c32_i32_7
  v11.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_9 : BitVec 32 := 32#32
  let v13 : BitVec 32 := Scalar.remsi v12 c32_i32_9
  v13.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_11 : BitVec 32 := 32#32
  let v15 : BitVec 32 := Scalar.remsi v14 c32_i32_11
  v15.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_13 : BitVec 32 := 32#32
  let v17 : BitVec 32 := Scalar.remsi v16 c32_i32_13
  v17.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_15 : BitVec 32 := 32#32
  let v19 : BitVec 32 := Scalar.remsi v18 c32_i32_15
  v19.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_17 : BitVec 32 := 32#32
  let v21 : BitVec 32 := Scalar.remsi v20 c32_i32_17
  v21.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_19 : BitVec 32 := 32#32
  let v23 : BitVec 32 := Scalar.remsi v22 c32_i32_19
  v23.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_21 : BitVec 32 := 32#32
  let v25 : BitVec 32 := Scalar.remsi v24 c32_i32_21
  v25.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_23 : BitVec 32 := 32#32
  let v27 : BitVec 32 := Scalar.remsi v26 c32_i32_23
  v27.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_25 : BitVec 32 := 32#32
  let v29 : BitVec 32 := Scalar.remsi v28 c32_i32_25
  v29.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_27 : BitVec 32 := 32#32
  let v31 : BitVec 32 := Scalar.remsi v30 c32_i32_27
  v31.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_29 : BitVec 32 := 32#32
  let v33 : BitVec 32 := Scalar.remsi v32 c32_i32_29
  v33.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_31 : BitVec 32 := 32#32
  let v35 : BitVec 32 := Scalar.remsi v34 c32_i32_31
  v35.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_33 : BitVec 32 := 32#32
  let v37 : BitVec 32 := Scalar.remsi v36 c32_i32_33
  v37.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_35 : BitVec 32 := 32#32
  let v39 : BitVec 32 := Scalar.remsi v38 c32_i32_35
  v39.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_37 : BitVec 32 := 32#32
  let v41 : BitVec 32 := Scalar.remsi v40 c32_i32_37
  v41.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_39 : BitVec 32 := 32#32
  let v43 : BitVec 32 := Scalar.remsi v42 c32_i32_39
  v43.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_41 : BitVec 32 := 32#32
  let v45 : BitVec 32 := Scalar.remsi v44 c32_i32_41
  v45.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_43 : BitVec 32 := 32#32
  let v47 : BitVec 32 := Scalar.remsi v46 c32_i32_43
  v47.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_45 : BitVec 32 := 32#32
  let v49 : BitVec 32 := Scalar.remsi v48 c32_i32_45
  v49.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_47 : BitVec 32 := 32#32
  let v51 : BitVec 32 := Scalar.remsi v50 c32_i32_47
  v51.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_49 : BitVec 32 := 32#32
  let v53 : BitVec 32 := Scalar.remsi v52 c32_i32_49
  v53.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_51 : BitVec 32 := 32#32
  let v55 : BitVec 32 := Scalar.remsi v54 c32_i32_51
  v55.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_53 : BitVec 32 := 32#32
  let v57 : BitVec 32 := Scalar.remsi v56 c32_i32_53
  v57.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_55 : BitVec 32 := 32#32
  let v59 : BitVec 32 := Scalar.remsi v58 c32_i32_55
  v59.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_57 : BitVec 32 := 32#32
  let v61 : BitVec 32 := Scalar.remsi v60 c32_i32_57
  v61.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_59 : BitVec 32 := 32#32
  let v63 : BitVec 32 := Scalar.remsi v62 c32_i32_59
  v63.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_61 : BitVec 32 := 32#32
  let v65 : BitVec 32 := Scalar.remsi v64 c32_i32_61
  v65.toNat
def k0_off1 (d0 : Dev nD) (c1_i32_343 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v557 : BitVec 32 := Scalar.addi v2 c1_i32_343
  let c32_i32_344 : BitVec 32 := 32#32
  let v558 : BitVec 32 := Scalar.remsi v557 c32_i32_344
  let c32_i32_345 : BitVec 32 := 32#32
  let v559 : BitVec 32 := Scalar.muli v558 c32_i32_345
  let c0_i32_351 : BitVec 32 := 0#32
  ![v559.toNat, 0]
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_343 : BitVec 32 := 1#32
  let v557 : BitVec 32 := Scalar.addi v2 c1_i32_343
  let c32_i32_344 : BitVec 32 := 32#32
  let v558 : BitVec 32 := Scalar.remsi v557 c32_i32_344
  v558.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_352 : BitVec 32 := 2#32
  let v567 : BitVec 32 := Scalar.addi v2 c2_i32_352
  let c32_i32_353 : BitVec 32 := 32#32
  let v568 : BitVec 32 := Scalar.remsi v567 c32_i32_353
  v568.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_361 : BitVec 32 := 3#32
  let v577 : BitVec 32 := Scalar.addi v2 c3_i32_361
  let c32_i32_362 : BitVec 32 := 32#32
  let v578 : BitVec 32 := Scalar.remsi v577 c32_i32_362
  v578.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_370 : BitVec 32 := 4#32
  let v587 : BitVec 32 := Scalar.addi v2 c4_i32_370
  let c32_i32_371 : BitVec 32 := 32#32
  let v588 : BitVec 32 := Scalar.remsi v587 c32_i32_371
  v588.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_379 : BitVec 32 := 5#32
  let v597 : BitVec 32 := Scalar.addi v2 c5_i32_379
  let c32_i32_380 : BitVec 32 := 32#32
  let v598 : BitVec 32 := Scalar.remsi v597 c32_i32_380
  v598.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_388 : BitVec 32 := 6#32
  let v607 : BitVec 32 := Scalar.addi v2 c6_i32_388
  let c32_i32_389 : BitVec 32 := 32#32
  let v608 : BitVec 32 := Scalar.remsi v607 c32_i32_389
  v608.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_397 : BitVec 32 := 7#32
  let v617 : BitVec 32 := Scalar.addi v2 c7_i32_397
  let c32_i32_398 : BitVec 32 := 32#32
  let v618 : BitVec 32 := Scalar.remsi v617 c32_i32_398
  v618.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_406 : BitVec 32 := 8#32
  let v627 : BitVec 32 := Scalar.addi v2 c8_i32_406
  let c32_i32_407 : BitVec 32 := 32#32
  let v628 : BitVec 32 := Scalar.remsi v627 c32_i32_407
  v628.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_415 : BitVec 32 := 9#32
  let v637 : BitVec 32 := Scalar.addi v2 c9_i32_415
  let c32_i32_416 : BitVec 32 := 32#32
  let v638 : BitVec 32 := Scalar.remsi v637 c32_i32_416
  v638.toNat
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_424 : BitVec 32 := 10#32
  let v647 : BitVec 32 := Scalar.addi v2 c10_i32_424
  let c32_i32_425 : BitVec 32 := 32#32
  let v648 : BitVec 32 := Scalar.remsi v647 c32_i32_425
  v648.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_433 : BitVec 32 := 11#32
  let v657 : BitVec 32 := Scalar.addi v2 c11_i32_433
  let c32_i32_434 : BitVec 32 := 32#32
  let v658 : BitVec 32 := Scalar.remsi v657 c32_i32_434
  v658.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_442 : BitVec 32 := 12#32
  let v667 : BitVec 32 := Scalar.addi v2 c12_i32_442
  let c32_i32_443 : BitVec 32 := 32#32
  let v668 : BitVec 32 := Scalar.remsi v667 c32_i32_443
  v668.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_451 : BitVec 32 := 13#32
  let v677 : BitVec 32 := Scalar.addi v2 c13_i32_451
  let c32_i32_452 : BitVec 32 := 32#32
  let v678 : BitVec 32 := Scalar.remsi v677 c32_i32_452
  v678.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_460 : BitVec 32 := 14#32
  let v687 : BitVec 32 := Scalar.addi v2 c14_i32_460
  let c32_i32_461 : BitVec 32 := 32#32
  let v688 : BitVec 32 := Scalar.remsi v687 c32_i32_461
  v688.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_469 : BitVec 32 := 15#32
  let v697 : BitVec 32 := Scalar.addi v2 c15_i32_469
  let c32_i32_470 : BitVec 32 := 32#32
  let v698 : BitVec 32 := Scalar.remsi v697 c32_i32_470
  v698.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v707 : BitVec 32 := Scalar.addi v2 c16_i32_478
  let c32_i32_479 : BitVec 32 := 32#32
  let v708 : BitVec 32 := Scalar.remsi v707 c32_i32_479
  v708.toNat
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_487 : BitVec 32 := 17#32
  let v717 : BitVec 32 := Scalar.addi v2 c17_i32_487
  let c32_i32_488 : BitVec 32 := 32#32
  let v718 : BitVec 32 := Scalar.remsi v717 c32_i32_488
  v718.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_496 : BitVec 32 := 18#32
  let v727 : BitVec 32 := Scalar.addi v2 c18_i32_496
  let c32_i32_497 : BitVec 32 := 32#32
  let v728 : BitVec 32 := Scalar.remsi v727 c32_i32_497
  v728.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_505 : BitVec 32 := 19#32
  let v737 : BitVec 32 := Scalar.addi v2 c19_i32_505
  let c32_i32_506 : BitVec 32 := 32#32
  let v738 : BitVec 32 := Scalar.remsi v737 c32_i32_506
  v738.toNat
def k0_dev51 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_514 : BitVec 32 := 20#32
  let v747 : BitVec 32 := Scalar.addi v2 c20_i32_514
  let c32_i32_515 : BitVec 32 := 32#32
  let v748 : BitVec 32 := Scalar.remsi v747 c32_i32_515
  v748.toNat
def k0_dev52 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_523 : BitVec 32 := 21#32
  let v757 : BitVec 32 := Scalar.addi v2 c21_i32_523
  let c32_i32_524 : BitVec 32 := 32#32
  let v758 : BitVec 32 := Scalar.remsi v757 c32_i32_524
  v758.toNat
def k0_dev53 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_532 : BitVec 32 := 22#32
  let v767 : BitVec 32 := Scalar.addi v2 c22_i32_532
  let c32_i32_533 : BitVec 32 := 32#32
  let v768 : BitVec 32 := Scalar.remsi v767 c32_i32_533
  v768.toNat
def k0_dev54 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_541 : BitVec 32 := 23#32
  let v777 : BitVec 32 := Scalar.addi v2 c23_i32_541
  let c32_i32_542 : BitVec 32 := 32#32
  let v778 : BitVec 32 := Scalar.remsi v777 c32_i32_542
  v778.toNat
def k0_dev55 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_550 : BitVec 32 := 24#32
  let v787 : BitVec 32 := Scalar.addi v2 c24_i32_550
  let c32_i32_551 : BitVec 32 := 32#32
  let v788 : BitVec 32 := Scalar.remsi v787 c32_i32_551
  v788.toNat
def k0_dev56 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_559 : BitVec 32 := 25#32
  let v797 : BitVec 32 := Scalar.addi v2 c25_i32_559
  let c32_i32_560 : BitVec 32 := 32#32
  let v798 : BitVec 32 := Scalar.remsi v797 c32_i32_560
  v798.toNat
def k0_dev57 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_568 : BitVec 32 := 26#32
  let v807 : BitVec 32 := Scalar.addi v2 c26_i32_568
  let c32_i32_569 : BitVec 32 := 32#32
  let v808 : BitVec 32 := Scalar.remsi v807 c32_i32_569
  v808.toNat
def k0_dev58 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_577 : BitVec 32 := 27#32
  let v817 : BitVec 32 := Scalar.addi v2 c27_i32_577
  let c32_i32_578 : BitVec 32 := 32#32
  let v818 : BitVec 32 := Scalar.remsi v817 c32_i32_578
  v818.toNat
def k0_dev59 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_586 : BitVec 32 := 28#32
  let v827 : BitVec 32 := Scalar.addi v2 c28_i32_586
  let c32_i32_587 : BitVec 32 := 32#32
  let v828 : BitVec 32 := Scalar.remsi v827 c32_i32_587
  v828.toNat
def k0_dev60 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_595 : BitVec 32 := 29#32
  let v837 : BitVec 32 := Scalar.addi v2 c29_i32_595
  let c32_i32_596 : BitVec 32 := 32#32
  let v838 : BitVec 32 := Scalar.remsi v837 c32_i32_596
  v838.toNat
def k0_dev61 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_604 : BitVec 32 := 30#32
  let v847 : BitVec 32 := Scalar.addi v2 c30_i32_604
  let c32_i32_605 : BitVec 32 := 32#32
  let v848 : BitVec 32 := Scalar.remsi v847 c32_i32_605
  v848.toNat
def k0_dev62 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_613 : BitVec 32 := 31#32
  let v857 : BitVec 32 := Scalar.addi v2 c31_i32_613
  let c32_i32_614 : BitVec 32 := 32#32
  let v858 : BitVec 32 := Scalar.remsi v857 c32_i32_614
  v858.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_622 : BitVec 32 := 32#32
  let v867 : BitVec 32 := Scalar.muli v2 c32_i32_622
  let v868 : Index := Scalar.indexCast v867
  let c0_623 : Index := 0#32
  ![v868.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_910 : BitVec 32 := 32#32
  let v1157 : BitVec 32 := Scalar.muli v2 c32_i32_910
  let c0_i32_913 : BitVec 32 := 0#32
  ![v1157.toNat, 0]
def k0_dev63 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_907 : BitVec 32 := 1#32
  let v1154 : BitVec 32 := Scalar.addi v2 c1_i32_907
  let c32_i32_908 : BitVec 32 := 32#32
  let v1155 : BitVec 32 := Scalar.remsi v1154 c32_i32_908
  v1155.toNat
def k0_dev64 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_915 : BitVec 32 := 2#32
  let v1164 : BitVec 32 := Scalar.addi v2 c2_i32_915
  let c32_i32_916 : BitVec 32 := 32#32
  let v1165 : BitVec 32 := Scalar.remsi v1164 c32_i32_916
  v1165.toNat
def k0_dev65 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_923 : BitVec 32 := 3#32
  let v1174 : BitVec 32 := Scalar.addi v2 c3_i32_923
  let c32_i32_924 : BitVec 32 := 32#32
  let v1175 : BitVec 32 := Scalar.remsi v1174 c32_i32_924
  v1175.toNat
def k0_dev66 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_931 : BitVec 32 := 4#32
  let v1184 : BitVec 32 := Scalar.addi v2 c4_i32_931
  let c32_i32_932 : BitVec 32 := 32#32
  let v1185 : BitVec 32 := Scalar.remsi v1184 c32_i32_932
  v1185.toNat
def k0_dev67 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_939 : BitVec 32 := 5#32
  let v1194 : BitVec 32 := Scalar.addi v2 c5_i32_939
  let c32_i32_940 : BitVec 32 := 32#32
  let v1195 : BitVec 32 := Scalar.remsi v1194 c32_i32_940
  v1195.toNat
def k0_dev68 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_947 : BitVec 32 := 6#32
  let v1204 : BitVec 32 := Scalar.addi v2 c6_i32_947
  let c32_i32_948 : BitVec 32 := 32#32
  let v1205 : BitVec 32 := Scalar.remsi v1204 c32_i32_948
  v1205.toNat
def k0_dev69 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_955 : BitVec 32 := 7#32
  let v1214 : BitVec 32 := Scalar.addi v2 c7_i32_955
  let c32_i32_956 : BitVec 32 := 32#32
  let v1215 : BitVec 32 := Scalar.remsi v1214 c32_i32_956
  v1215.toNat
def k0_dev70 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_963 : BitVec 32 := 8#32
  let v1224 : BitVec 32 := Scalar.addi v2 c8_i32_963
  let c32_i32_964 : BitVec 32 := 32#32
  let v1225 : BitVec 32 := Scalar.remsi v1224 c32_i32_964
  v1225.toNat
def k0_dev71 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_971 : BitVec 32 := 9#32
  let v1234 : BitVec 32 := Scalar.addi v2 c9_i32_971
  let c32_i32_972 : BitVec 32 := 32#32
  let v1235 : BitVec 32 := Scalar.remsi v1234 c32_i32_972
  v1235.toNat
def k0_dev72 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_979 : BitVec 32 := 10#32
  let v1244 : BitVec 32 := Scalar.addi v2 c10_i32_979
  let c32_i32_980 : BitVec 32 := 32#32
  let v1245 : BitVec 32 := Scalar.remsi v1244 c32_i32_980
  v1245.toNat
def k0_dev73 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_987 : BitVec 32 := 11#32
  let v1254 : BitVec 32 := Scalar.addi v2 c11_i32_987
  let c32_i32_988 : BitVec 32 := 32#32
  let v1255 : BitVec 32 := Scalar.remsi v1254 c32_i32_988
  v1255.toNat
def k0_dev74 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_995 : BitVec 32 := 12#32
  let v1264 : BitVec 32 := Scalar.addi v2 c12_i32_995
  let c32_i32_996 : BitVec 32 := 32#32
  let v1265 : BitVec 32 := Scalar.remsi v1264 c32_i32_996
  v1265.toNat
def k0_dev75 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1003 : BitVec 32 := 13#32
  let v1274 : BitVec 32 := Scalar.addi v2 c13_i32_1003
  let c32_i32_1004 : BitVec 32 := 32#32
  let v1275 : BitVec 32 := Scalar.remsi v1274 c32_i32_1004
  v1275.toNat
def k0_dev76 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1011 : BitVec 32 := 14#32
  let v1284 : BitVec 32 := Scalar.addi v2 c14_i32_1011
  let c32_i32_1012 : BitVec 32 := 32#32
  let v1285 : BitVec 32 := Scalar.remsi v1284 c32_i32_1012
  v1285.toNat
def k0_dev77 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1019 : BitVec 32 := 15#32
  let v1294 : BitVec 32 := Scalar.addi v2 c15_i32_1019
  let c32_i32_1020 : BitVec 32 := 32#32
  let v1295 : BitVec 32 := Scalar.remsi v1294 c32_i32_1020
  v1295.toNat
def k0_dev78 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1027 : BitVec 32 := 16#32
  let v1304 : BitVec 32 := Scalar.addi v2 c16_i32_1027
  let c32_i32_1028 : BitVec 32 := 32#32
  let v1305 : BitVec 32 := Scalar.remsi v1304 c32_i32_1028
  v1305.toNat
def k0_dev79 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1035 : BitVec 32 := 17#32
  let v1314 : BitVec 32 := Scalar.addi v2 c17_i32_1035
  let c32_i32_1036 : BitVec 32 := 32#32
  let v1315 : BitVec 32 := Scalar.remsi v1314 c32_i32_1036
  v1315.toNat
def k0_dev80 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1043 : BitVec 32 := 18#32
  let v1324 : BitVec 32 := Scalar.addi v2 c18_i32_1043
  let c32_i32_1044 : BitVec 32 := 32#32
  let v1325 : BitVec 32 := Scalar.remsi v1324 c32_i32_1044
  v1325.toNat
def k0_dev81 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1051 : BitVec 32 := 19#32
  let v1334 : BitVec 32 := Scalar.addi v2 c19_i32_1051
  let c32_i32_1052 : BitVec 32 := 32#32
  let v1335 : BitVec 32 := Scalar.remsi v1334 c32_i32_1052
  v1335.toNat
def k0_dev82 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1059 : BitVec 32 := 20#32
  let v1344 : BitVec 32 := Scalar.addi v2 c20_i32_1059
  let c32_i32_1060 : BitVec 32 := 32#32
  let v1345 : BitVec 32 := Scalar.remsi v1344 c32_i32_1060
  v1345.toNat
def k0_dev83 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1067 : BitVec 32 := 21#32
  let v1354 : BitVec 32 := Scalar.addi v2 c21_i32_1067
  let c32_i32_1068 : BitVec 32 := 32#32
  let v1355 : BitVec 32 := Scalar.remsi v1354 c32_i32_1068
  v1355.toNat
def k0_dev84 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1075 : BitVec 32 := 22#32
  let v1364 : BitVec 32 := Scalar.addi v2 c22_i32_1075
  let c32_i32_1076 : BitVec 32 := 32#32
  let v1365 : BitVec 32 := Scalar.remsi v1364 c32_i32_1076
  v1365.toNat
def k0_dev85 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1083 : BitVec 32 := 23#32
  let v1374 : BitVec 32 := Scalar.addi v2 c23_i32_1083
  let c32_i32_1084 : BitVec 32 := 32#32
  let v1375 : BitVec 32 := Scalar.remsi v1374 c32_i32_1084
  v1375.toNat
def k0_dev86 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1091 : BitVec 32 := 24#32
  let v1384 : BitVec 32 := Scalar.addi v2 c24_i32_1091
  let c32_i32_1092 : BitVec 32 := 32#32
  let v1385 : BitVec 32 := Scalar.remsi v1384 c32_i32_1092
  v1385.toNat
def k0_dev87 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1099 : BitVec 32 := 25#32
  let v1394 : BitVec 32 := Scalar.addi v2 c25_i32_1099
  let c32_i32_1100 : BitVec 32 := 32#32
  let v1395 : BitVec 32 := Scalar.remsi v1394 c32_i32_1100
  v1395.toNat
def k0_dev88 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1107 : BitVec 32 := 26#32
  let v1404 : BitVec 32 := Scalar.addi v2 c26_i32_1107
  let c32_i32_1108 : BitVec 32 := 32#32
  let v1405 : BitVec 32 := Scalar.remsi v1404 c32_i32_1108
  v1405.toNat
def k0_dev89 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1115 : BitVec 32 := 27#32
  let v1414 : BitVec 32 := Scalar.addi v2 c27_i32_1115
  let c32_i32_1116 : BitVec 32 := 32#32
  let v1415 : BitVec 32 := Scalar.remsi v1414 c32_i32_1116
  v1415.toNat
def k0_dev90 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1123 : BitVec 32 := 28#32
  let v1424 : BitVec 32 := Scalar.addi v2 c28_i32_1123
  let c32_i32_1124 : BitVec 32 := 32#32
  let v1425 : BitVec 32 := Scalar.remsi v1424 c32_i32_1124
  v1425.toNat
def k0_dev91 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1131 : BitVec 32 := 29#32
  let v1434 : BitVec 32 := Scalar.addi v2 c29_i32_1131
  let c32_i32_1132 : BitVec 32 := 32#32
  let v1435 : BitVec 32 := Scalar.remsi v1434 c32_i32_1132
  v1435.toNat
def k0_dev92 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1139 : BitVec 32 := 30#32
  let v1444 : BitVec 32 := Scalar.addi v2 c30_i32_1139
  let c32_i32_1140 : BitVec 32 := 32#32
  let v1445 : BitVec 32 := Scalar.remsi v1444 c32_i32_1140
  v1445.toNat
def k0_dev93 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1147 : BitVec 32 := 31#32
  let v1454 : BitVec 32 := Scalar.addi v2 c31_i32_1147
  let c32_i32_1148 : BitVec 32 := 32#32
  let v1455 : BitVec 32 := Scalar.remsi v1454 c32_i32_1148
  v1455.toNat
def k0_off4 (d0 : Dev nD) (c1_i32_1155 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1464 : BitVec 32 := Scalar.subi v2 c1_i32_1155
  let c32_i32_1156 : BitVec 32 := 32#32
  let v1465 : BitVec 32 := Scalar.addi v1464 c32_i32_1156
  let c32_i32_1157 : BitVec 32 := 32#32
  let v1466 : BitVec 32 := Scalar.remsi v1465 c32_i32_1157
  let c32_i32_1158 : BitVec 32 := 32#32
  let v1467 : BitVec 32 := Scalar.muli v1466 c32_i32_1158
  let c0_i32_1161 : BitVec 32 := 0#32
  ![v1467.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 132
  | .vmem => 0
  | .smem => 0
  | _ => 0

abbrev hbmTy0_0 (i : Nat) : BufTy := match i % 128 with
  | 0 => ⟨S2x512x768, .bf16⟩
  | 1 => ⟨S768x16384, .bf16⟩
  | 2 => ⟨S2x512x256x64, .bf16⟩
  | 3 => ⟨S2x512x256x64, .bf16⟩
  | 4 => ⟨S16384x768, .bf16⟩
  | 5 => ⟨S2x512x768, .f32⟩
  | 6 => ⟨S768x16384, .f32⟩
  | 7 => ⟨S2x512x16384, .f32⟩
  | 8 => ⟨S2x512x16384, .bf16⟩
  | 9 => ⟨S2x512x256x64, .bf16⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S512, .i32⟩
  | 31 => ⟨S_, .i32⟩
  | 32 => ⟨S_, .i32⟩
  | 33 => ⟨S512, .i32⟩
  | 34 => ⟨S512, .i32⟩
  | 35 => ⟨S512, .i32⟩
  | 36 => ⟨S_, .i32⟩
  | 37 => ⟨S512, .i32⟩
  | 38 => ⟨S512, .i1⟩
  | 39 => ⟨S512, .i32⟩
  | 40 => ⟨S512, .i32⟩
  | 41 => ⟨S_, .i32⟩
  | 42 => ⟨S512, .i32⟩
  | 43 => ⟨S512, .i1⟩
  | 44 => ⟨S512, .i1⟩
  | 45 => ⟨S_, .i32⟩
  | 46 => ⟨S512, .i32⟩
  | 47 => ⟨S512, .i32⟩
  | 48 => ⟨S512, .i32⟩
  | 49 => ⟨S1x512, .i32⟩
  | 50 => ⟨S512x512, .i32⟩
  | 51 => ⟨S512x512, .i32⟩
  | 52 => ⟨S512x512, .i1⟩
  | 53 => ⟨S_, .i32⟩
  | 54 => ⟨S1x512, .i32⟩
  | 55 => ⟨S1x512, .i1⟩
  | 56 => ⟨S512x512, .i1⟩
  | 57 => ⟨S512x512, .i1⟩
  | 58 => ⟨S512x512, .i32⟩
  | 59 => ⟨S512x512, .i32⟩
  | 60 => ⟨S512x512, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S512x512, .i32⟩
  | 68 => ⟨S512x512, .i32⟩
  | 69 => ⟨S_, .i32⟩
  | 70 => ⟨S512x512, .i32⟩
  | 71 => ⟨S512x512, .i1⟩
  | 72 => ⟨S_, .i32⟩
  | 73 => ⟨S512x512, .i32⟩
  | 74 => ⟨S512x512, .i1⟩
  | 75 => ⟨S_, .i32⟩
  | 76 => ⟨S_, .i1⟩
  | 77 => ⟨S512x512, .i1⟩
  | 78 => ⟨S512x512, .i1⟩
  | 79 => ⟨S512x512, .i1⟩
  | 80 => ⟨S512x512, .i32⟩
  | 81 => ⟨S512x512, .i32⟩
  | 82 => ⟨S512x512, .i32⟩
  | 83 => ⟨S_, .i32⟩
  | 84 => ⟨S512x512, .i32⟩
  | 85 => ⟨S512x512, .i1⟩
  | 86 => ⟨S512x512, .i1⟩
  | 87 => ⟨S2x512x256x64, .f32⟩
  | 88 => ⟨S2x512x256x64, .f32⟩
  | 89 => ⟨S2x256x512x512, .f32⟩
  | 90 => ⟨S2x256x512x512, .bf16⟩
  | 91 => ⟨S2x256x512x512, .f32⟩
  | 92 => ⟨S_, .f32⟩
  | 93 => ⟨S2x256x512x512, .f32⟩
  | 94 => ⟨S2x256x512x512, .f32⟩
  | 95 => ⟨S1x1x512x512, .i1⟩
  | 96 => ⟨S_, .f32⟩
  | 97 => ⟨S_, .f32⟩
  | 98 => ⟨S2x256x512x512, .i1⟩
  | 99 => ⟨S2x256x512x512, .f32⟩
  | 100 => ⟨S2x256x512x512, .f32⟩
  | 101 => ⟨S_, .f32⟩
  | 102 => ⟨S2x256x512, .f32⟩
  | 103 => ⟨S2x256x512x1, .f32⟩
  | 104 => ⟨S2x256x512x512, .f32⟩
  | 105 => ⟨S2x256x512x512, .f32⟩
  | 106 => ⟨S2x256x512x512, .f32⟩
  | 107 => ⟨S_, .i1⟩
  | 108 => ⟨S512, .i1⟩
  | 109 => ⟨S1x1x512x1, .i1⟩
  | 110 => ⟨S_, .f32⟩
  | 111 => ⟨S2x256x512, .f32⟩
  | 112 => ⟨S2x256x512x1, .f32⟩
  | 113 => ⟨S_, .f32⟩
  | 114 => ⟨S_, .f32⟩
  | 115 => ⟨S2x256x512x1, .i1⟩
  | 116 => ⟨S2x256x512x1, .f32⟩
  | 117 => ⟨S2x256x512x1, .f32⟩
  | 118 => ⟨S2x256x512x512, .f32⟩
  | 119 => ⟨S2x256x512x512, .f32⟩
  | 120 => ⟨S1x1x512x1, .i1⟩
  | 121 => ⟨S_, .f32⟩
  | 122 => ⟨S_, .f32⟩
  | 123 => ⟨S2x256x512x512, .i1⟩
  | 124 => ⟨S2x256x512x512, .f32⟩
  | 125 => ⟨S2x256x512x512, .f32⟩
  | 126 => ⟨S2x512x256x64, .f32⟩
  | 127 => ⟨S2x256x64x512, .f32⟩
  | _ => ⟨S2x512x768, .bf16⟩

abbrev hbmTy0_1 (i : Nat) : BufTy := match i % 128 with
  | 0 => ⟨S2x512x256x64, .f32⟩
  | 1 => ⟨S2x512x16384, .f32⟩
  | 2 => ⟨S16384x768, .f32⟩
  | 3 => ⟨S2x512x768, .f32⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_4 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v33 : Ref sig .tc := ⟨.hbm, 100, rfl⟩
abbrev main_cst_5 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_c_6 : Ref sig .tc := ⟨.hbm, 107, rfl⟩
abbrev main_v39 : Ref sig .tc := ⟨.hbm, 108, rfl⟩
abbrev main_v40 : Ref sig .tc := ⟨.hbm, 109, rfl⟩
abbrev main_cst_7 : Ref sig .tc := ⟨.hbm, 110, rfl⟩
abbrev main_v41 : Ref sig .tc := ⟨.hbm, 111, rfl⟩
abbrev main_v42 : Ref sig .tc := ⟨.hbm, 112, rfl⟩
abbrev main_cst_8 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_9 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩

abbrev nD : Nat := 1
abbrev τ : Topo := Topo.v7x

variable {F : FTy → Type} [FloatOps F]
-- ==== Proof.Protocol.lean ====
/-
  The protocol the kernel's devices follow, for one version of the program text: the ring of devices, the
  semaphore cells, the blocks of memory that change hands, the schedule of who pays which cell with what,
  what each device owes at the start, and the order in which waits may happen.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.Tactic
public import Idealize.ShloMosaic.Lib.ShareLeaves
public import Idealize.ShloMosaic.Lib.Pipeline.RegionTalk

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring of devices -/

/-- The device `k + 1` places after `c`: the one `c`'s copy number `k` goes to. -/
def nx (c : Dev nD) (k : Fin 31) : Dev nD := ⟨(c.val + k.val + 1) % 32, Nat.mod_lt _ (by decide)⟩
/-- The device `k + 1` places before `c`: the one whose copy number `k` comes to `c`. -/
def pv (c : Dev nD) (k : Fin 31) : Dev nD := ⟨(c.val + 31 - k.val) % 32, Nat.mod_lt _ (by decide)⟩
/-- The number, counted the other way round the ring. -/
def rev (k : Fin 31) : Fin 31 := ⟨30 - k.val, by omega⟩

theorem dev_lt (c : Dev nD) : c.val < 32 := c.isLt
theorem nx_pv (c : Dev nD) (k : Fin 31) : nx (pv c k) k = c := by
  apply Fin.ext; have := dev_lt c; have := k.isLt; dsimp only [nx, pv]; omega
theorem pv_nx (c : Dev nD) (k : Fin 31) : pv (nx c k) k = c := by
  apply Fin.ext; have := dev_lt c; have := k.isLt; dsimp only [nx, pv]; omega
theorem rev_rev (k : Fin 31) : rev (rev k) = k := by apply Fin.ext; have := k.isLt; dsimp only [rev]; omega
theorem nx_rev (c : Dev nD) (k : Fin 31) : nx c (rev k) = pv c k := by
  apply Fin.ext; have := dev_lt c; have := k.isLt; dsimp only [nx, pv, rev]; omega
theorem nx_nx_rev (c : Dev nD) (k : Fin 31) : nx (nx c k) (rev k) = c := by rw [nx_rev, pv_nx]
theorem nx_ne (c : Dev nD) (k : Fin 31) : nx c k ≠ c := fun h => by
  have h := congrArg Fin.val h; have := dev_lt c; have := k.isLt; dsimp only [nx] at h; omega
theorem pv_ne (c : Dev nD) (k : Fin 31) : pv c k ≠ c := fun h => by
  have h := congrArg Fin.val h; have := dev_lt c; have := k.isLt; dsimp only [pv] at h; omega
theorem nx_inj (c : Dev nD) {j k : Fin 31} (h : nx c j = nx c k) : j = k := by
  have h := congrArg Fin.val h; apply Fin.ext; have := dev_lt c; have := k.isLt; have := j.isLt; dsimp only [nx] at h; omega
theorem pv_inj (c : Dev nD) {j k : Fin 31} (h : pv c j = pv c k) : j = k := by
  have h := congrArg Fin.val h; apply Fin.ext; have := dev_lt c; have := k.isLt; have := j.isLt; dsimp only [pv] at h; omega
/-- Every device other than `c` is one of those after it. -/
theorem exists_nx (c d : Dev nD) (h : d ≠ c) : ∃ k, nx c k = d := by
  have := dev_lt c; have := dev_lt d
  have hne : d.val ≠ c.val := fun e => h (Fin.ext e)
  refine ⟨⟨(d.val + 31 - c.val) % 32, by omega⟩, Fin.ext ?_⟩
  dsimp only [nx]; omega
/-- One step of the ring, as an exchange of devices. -/
def ring (k : Fin 31) : Dev nD ≃ Dev nD := ⟨fun c => nx c k, fun c => pv c k, fun c => pv_nx c k, fun c => nx_pv c k⟩

variable {F : FTy → Type}

abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-! ## Cells -/

abbrev barS : Sem sig := ⟨0, by decide⟩
/-- The kernel's own transfer semaphores: four arrays of 31. -/
def dmaS (a : Fin 4) (k : Fin 31) : DmaSem sig := ⟨6 + 31 * a.val + k.val, by have := a.isLt; have := k.isLt; show _ < 130; omega⟩

abbrev barCell (c : Dev nD) : GSem nD τ sig := ((c : Thread nD τ), .reg barS)
abbrev cell (a : Fin 4) (c : Dev nD) (k : Fin 31) : GSem nD τ sig := ((c : Thread nD τ), .dma (dmaS a k))

theorem dmaS_inj {a b : Fin 4} {j k : Fin 31} (h : dmaS a j = dmaS b k) : a = b ∧ j = k := by
  have h := congrArg Fin.val h; have := j.isLt; have := k.isLt; dsimp only [dmaS] at h
  constructor <;> apply Fin.ext <;> omega

/-! ## The blocks of memory -/

theorem blk_inb (b : Dev nD) : ∀ a, (![32 * b.val, 0] : Fin 2 → ℕ) a + S32x768.size a ≤ S1024x768.size a := by
  have := dev_lt b
  intro a; fin_cases a
  · show 32 * b.val + 32 ≤ 1024; omega
  · show 0 + 768 ≤ 768; omega
/-- Rows `32b .. 32b + 31`. -/
abbrev blk (b : Dev nD) : Rect S1024x768 := Rect.unit (s := S1024x768) ![32 * b.val, 0] S32x768.size (blk_inb b)
theorem slo_inb (k : Fin 31) : ∀ a, (![k.val, 0, 0] : Fin 3 → ℕ) a + S1x32x768.size a ≤ S31x32x768.size a := by
  have := k.isLt
  intro a; fin_cases a
  · show k.val + 1 ≤ 31; omega
  · show 0 + 32 ≤ 32; omega
  · show 0 + 768 ≤ 768; omega
abbrev slo (k : Fin 31) : Rect S31x32x768 := Rect.unit (s := S31x32x768) ![k.val, 0, 0] S1x32x768.size (slo_inb k)

/-- The partial products, block `b`. -/
abbrev pM (b : Dev nD) : Memref sig .tc .vmem S32x768 .bf16 := (Memref.whole cc0_scratch2).slice (blk b) (fun _ => rfl)
/-- The result, block `b`. -/
abbrev oM (b : Dev nD) : Memref sig .tc .vmem S32x768 .bf16 := (Memref.whole cc0_stg5_0).slice (blk b) (fun _ => rfl)
/-- The scratch, slot `k`. -/
abbrev slM (k : Fin 31) : Memref sig .tc .vmem S32x768 .bf16 :=
  ((Memref.whole cc0_scratch3).slice (slo k) (fun _ => rfl)).squeeze S32x768 squeezes_S1x32x768_S32x768

/-- What a copy of one block is worth. -/
abbrev N : ℕ := (pM ⟨0, by decide⟩).view.dmaCredit
theorem N_pos : 0 < N := View.dmaCredit_pos _ (by decide)
theorem credit_p (b : Dev nD) : (pM b).view.dmaCredit = N := rfl
theorem credit_o (b : Dev nD) : (oM b).view.dmaCredit = N := rfl
theorem credit_s (k : Fin 31) : (slM k).view.dmaCredit = N := rfl

abbrev PC : Type := S1024x768.Idx → Elt F .bf16
abbrev SC : Type := S31x32x768.Idx → Elt F .bf16

abbrev pPts (c b : Dev nD) (f : PC (F := F)) : sProp 𝕄 := (pM b).view.loc (c : Thread nD τ) ↦[(pM b).view.set]{fullShare} f
abbrev oPts (c b : Dev nD) (q : PosShare TreeShare) (f : PC (F := F)) : sProp 𝕄 := (oM b).view.loc (c : Thread nD τ) ↦[(oM b).view.set]{q} f
abbrev sPts (c : Dev nD) (k : Fin 31) (f : SC (F := F)) : sProp 𝕄 := (slM k).view.loc (c : Thread nD τ) ↦[(slM k).view.set]{fullShare} f

variable (Pv : Dev nD → PC (F := F)) (OUT : PC (F := F))

/-- What device `c`'s scratch holds once every copy has landed: slot `k` is block `c` of the partial products of the
    device `k + 1` places before. -/
def SCR (c : Dev nD) : SC (F := F) := fun i => Pv (pv c (i 0)) ((blk c).emb (fun | 0 => i 1 | 1 => i 2))

/-! ## The schedule -/

/-- Paid to `d`'s barrier cell, duty `j`, by the device `j + 1` places after `d`: its scratch slot `j` and its block `d` of
    the result, for `d` to write, and that its receive cells `j` are ready. -/
def barPay (d : Dev nD) (j : Fin 31) : sProp 𝕄 :=
  iprop((∃ f, sPts (nx d j) j f) ∗ (∃ f, oPts (nx d j) d fullShare f) ∗ reached ER (cell 1 (nx d j) j) 0 ∗ reached ER (cell 3 (nx d j) j) 0)

/-- The share of its own result block a device lends to its copy number `k`. -/
def lend (k : Fin 31) : PosShare TreeShare := ShareLeaves.leaf 5 fullShare (⟨k.val, by have := k.isLt; omega⟩ : Fin (2 ^ 5))

def dmaPay (c : Dev nD) (a : Fin 4) (k : Fin 31) : sProp 𝕄 :=
  if a = 0 then pPts c (nx c k) (Pv c)
  else if a = 1 then sPts c k (SCR Pv c)
  else if a = 2 then oPts c c (lend k) OUT
  else oPts c (pv c k) fullShare OUT

/-- One round; one duty of a block's worth on each of the kernel's transfer cells, and on each barrier cell 31 duties of one
    unit. -/
def Rd : Rounds.Schedule (GSem nD τ sig) (Fin 31) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => N
  payload g _ d := match g.2 with
    | .reg _ => barPay g.1.1 d
    | .dma s => if 6 ≤ s.val then
        dmaPay Pv OUT g.1.1 (Fin.ofNat 4 ((s.val - 6) / 31)) (Fin.ofNat 31 ((s.val - 6) % 31)) else iprop(emp)
  amount_pos g _ _ _ := by
    cases g.2
    · exact Nat.one_pos
    · exact N_pos

instance Rd_storable (g : GSem nD τ sig) (r : ℕ) (d : Fin 31) : BI.Storable (upEmb : UEmb _ 𝕄) ((Rd Pv OUT).payload g r d) := by
  obtain ⟨t, s⟩ := g
  cases s
  · show BI.Storable upEmb (barPay t.1 d)
    unfold barPay
    infer_instance
  · rename_i s
    show BI.Storable upEmb (if 6 ≤ s.val then
        dmaPay Pv OUT t.1 (Fin.ofNat 4 ((s.val - 6) / 31)) (Fin.ofNat 31 ((s.val - 6) % 31)) else iprop(emp))
    unfold dmaPay
    (repeat' split) <;> infer_instance

theorem dmaS_a (a : Fin 4) (k : Fin 31) : (Fin.ofNat 4 (((dmaS a k).val - 6) / 31)) = a := by
  have := a.isLt; have := k.isLt; apply Fin.ext; simp only [dmaS, Fin.ofNat]; omega
theorem dmaS_k (a : Fin 4) (k : Fin 31) : (Fin.ofNat 31 (((dmaS a k).val - 6) % 31)) = k := by
  have := a.isLt; have := k.isLt; apply Fin.ext; simp only [dmaS, Fin.ofNat]; omega
theorem dmaS_ge (a : Fin 4) (k : Fin 31) : 6 ≤ (dmaS a k).val := by dsimp only [dmaS]; omega

theorem duties_bar (c : Dev nD) : (Rd Pv OUT).duties (barCell c) 0 = Finset.univ := by dsimp only [Rd]; exact if_pos ⟨rfl, rfl⟩
theorem duties_dma (a : Fin 4) (c : Dev nD) (k : Fin 31) : (Rd Pv OUT).duties (cell a c k) 0 = {0} := by
  dsimp only [Rd]; rw [if_pos ⟨rfl, rfl⟩, if_pos (dmaS_ge a k)]
theorem duties_later (g : GSem nD τ sig) (r : ℕ) (hr : 1 ≤ r) : (Rd Pv OUT).duties g r = ∅ := by
  dsimp only [Rd]; exact if_neg (fun h => by omega)
theorem amount_bar (c : Dev nD) (r : ℕ) (j : Fin 31) : (Rd Pv OUT).amount (barCell c) r j = 1 := rfl
theorem amount_dma (a : Fin 4) (c : Dev nD) (k : Fin 31) (r : ℕ) (j : Fin 31) : (Rd Pv OUT).amount (cell a c k) r j = N := rfl
theorem payload_bar (c : Dev nD) (r : ℕ) (j : Fin 31) : (Rd Pv OUT).payload (barCell c) r j = barPay c j := rfl
theorem payload_dma (a : Fin 4) (c : Dev nD) (k : Fin 31) (r : ℕ) (j : Fin 31) :
    (Rd Pv OUT).payload (cell a c k) r j = dmaPay Pv OUT c a k := by
  dsimp only [Rd]; rw [if_pos (dmaS_ge a k), dmaS_a, dmaS_k]
theorem expect_bar (c : Dev nD) : (Rd Pv OUT).expect (barCell c) 0 = 31 := by
  unfold Schedule.expect Schedule.amountOf
  rw [duties_bar, Finset.sum_congr rfl (fun j _ => amount_bar Pv OUT c 0 j)]; rfl
theorem expect_dma (a : Fin 4) (c : Dev nD) (k : Fin 31) : (Rd Pv OUT).expect (cell a c k) 0 = N := by
  unfold Schedule.expect Schedule.amountOf; rw [duties_dma, Finset.sum_singleton, amount_dma]

theorem rest_bar (c : Dev nD) : bigSep ((Rd Pv OUT).duties (barCell c) 0 \ ∅) (fun j => (Rd Pv OUT).payload (barCell c) 0 j)
    = bigSep Finset.univ (fun j => (barPay c j : sProp 𝕄)) := by
  rw [Finset.sdiff_empty, duties_bar]; rfl
theorem rest_dma (a : Fin 4) (c : Dev nD) (k : Fin 31) :
    bigSep ((Rd Pv OUT).duties (cell a c k) 0 \ ∅) (fun j => (Rd Pv OUT).payload (cell a c k) 0 j) = dmaPay Pv OUT c a k := by
  rw [Finset.sdiff_empty, duties_dma, bigSep_singleton, payload_dma]

theorem pay_0 (c : Dev nD) (k : Fin 31) : dmaPay Pv OUT c 0 k = pPts c (nx c k) (Pv c) := rfl
theorem pay_1 (c : Dev nD) (k : Fin 31) : dmaPay Pv OUT c 1 k = sPts c k (SCR Pv c) := rfl
theorem pay_2 (c : Dev nD) (k : Fin 31) : dmaPay Pv OUT c 2 k = oPts c c (lend k) OUT := rfl
theorem pay_3 (c : Dev nD) (k : Fin 31) : dmaPay Pv OUT c 3 k = oPts c (pv c k) fullShare OUT := rfl

/-! ## What a device owes, and the levels -/

/-- The copies numbered from `i` on, and those before. -/
def rem (i : ℕ) : Finset (Fin 31) := Finset.univ.filter (fun k => i ≤ k.val)
def don (i : ℕ) : Finset (Fin 31) := Finset.univ.filter (fun k => k.val < i)

theorem rem_zero : rem 0 = Finset.univ := by simp [rem]
theorem rem_end : rem 31 = ∅ := by
  apply Finset.eq_empty_of_forall_notMem; intro k hk; have := k.isLt; simp only [rem, Finset.mem_filter] at hk; omega
theorem don_zero : don 0 = ∅ := by
  apply Finset.eq_empty_of_forall_notMem; intro k hk; simp only [don, Finset.mem_filter] at hk; omega
theorem don_end : don 31 = Finset.univ := by ext k; have := k.isLt; simp only [don, Finset.mem_filter, Finset.mem_univ, true_and, iff_true]; omega
theorem rem_eq (k : Fin 31) : rem k.val = insert k (rem (k.val + 1)) := by
  ext j; simp only [rem, Finset.mem_filter, Finset.mem_univ, true_and, Finset.mem_insert, Fin.ext_iff]; omega
theorem not_mem_rem (k : Fin 31) : k ∉ rem (k.val + 1) := by simp only [rem, Finset.mem_filter]; omega
theorem don_eq (k : Fin 31) : don (k.val + 1) = insert k (don k.val) := by
  ext j; simp only [don, Finset.mem_filter, Finset.mem_univ, true_and, Finset.mem_insert, Fin.ext_iff]; omega
theorem not_mem_don (k : Fin 31) : k ∉ don k.val := by simp only [don, Finset.mem_filter]; omega

/-- What is still owed to the barrier cells, to the first and to the second receive cells. -/
def oweB (c : Dev nD) (i : ℕ) : CellTallies nD τ sig Unit := ∑ k ∈ rem i, tallyAt (barCell (nx c k)) () 1
def oweR (a : Fin 4) (c : Dev nD) (i : ℕ) : CellTallies nD τ sig Unit := ∑ k ∈ rem i, tallyAt (cell a (nx c k) k) () N

theorem oweB_step (c : Dev nD) (k : Fin 31) : oweB c k.val = tallyAt (barCell (nx c k)) () 1 + oweB c (k.val + 1) := by
  unfold oweB; rw [rem_eq, Finset.sum_insert (not_mem_rem k)]
theorem oweR_step (a : Fin 4) (c : Dev nD) (k : Fin 31) : oweR a c k.val = tallyAt (cell a (nx c k) k) () N + oweR a c (k.val + 1) := by
  unfold oweR; rw [rem_eq, Finset.sum_insert (not_mem_rem k)]
theorem oweB_end (c : Dev nD) : oweB c 31 = 0 := by unfold oweB; rw [rem_end, Finset.sum_empty]
theorem oweR_end (a : Fin 4) (c : Dev nD) : oweR a c 31 = 0 := by unfold oweR; rw [rem_end, Finset.sum_empty]

/-- Everything device `c` owes at the start. -/
def O₀ (c : Dev nD) : CellTallies nD τ sig Unit := oweB c 0 + (oweR 1 c 0 + oweR 3 c 0)

def L (g : GSem nD τ sig) : Finset Unit := if g.1.2 = .tc then {()} else ∅
/-- Barrier cells at 1, first receive cells at 2, second receive cells at 3, the rest at 0. -/
def lv (g : GSem nD τ sig) (_ : Unit) : ℕ := match g.2 with
  | .reg _ => 1
  | .dma s => if 37 ≤ s.val ∧ s.val < 68 then 2 else if 99 ≤ s.val then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_1 (c : Dev nD) (k : Fin 31) (u : Unit) : lv (cell 1 c k) u = 2 := by
  have := k.isLt
  have h : (dmaS 1 k).val = 37 + k.val := rfl
  exact if_pos ⟨by omega, by omega⟩
theorem lv_3 (c : Dev nD) (k : Fin 31) (u : Unit) : lv (cell 3 c k) u = 3 := by
  have h : (dmaS 3 k).val = 99 + k.val := rfl
  exact (if_neg (fun h' => by omega)).trans (if_pos (by omega))

theorem oweR_mem (a : Fin 4) (c : Dev nD) (i : ℕ) (g : GSem nD τ sig) (u : Unit) (h : 0 < oweR a c i g u) :
    ∃ d k, g = cell a d k := by
  unfold oweR at h
  by_contra hn
  push Not at hn
  have : (∑ k ∈ rem i, tallyAt (cell a (nx c k) k) () N : CellTallies nD τ sig Unit) g u = 0 := by
    rw [Finset.sum_apply, Finsupp.finsetSum_apply]
    refine Finset.sum_eq_zero fun k _ => ?_
    rw [tallyAt_apply, if_neg (fun h => hn _ _ h.1)]
  omega

/-- A wait on the barrier is allowed while only copies are owed. -/
theorem mayWait_bar (c : Dev nD) (i j : ℕ) :
    (levAts L lv : sProp 𝕄) ⊢ MayWait (c : Thread nD τ) (.reg barS) () (oweR 1 c i + oweR 3 c j) := by
  have key : ∀ (g : GSem nD τ sig) (u : Unit), 0 < (oweR 1 c i + oweR 3 c j) g u → (∃ d k, g = cell 1 d k) ∨ (∃ d k, g = cell 3 d k) := by
    intro g u hg
    rw [Pi.add_apply, Finsupp.add_apply] at hg
    rcases Nat.eq_zero_or_pos (oweR 1 c i g u) with h | h
    · exact .inr (oweR_mem 3 c j g u (by omega))
    · exact .inl (oweR_mem 1 c i g u h)
  refine MayOwe.of_cut (L := L) (lev := lv) 1 (fun p hp => by rw [Finset.mem_singleton.mp hp, L_tc]; exact Finset.mem_singleton_self _) ?_
    (fun p hp => by rw [Finset.mem_singleton.mp hp, lv_bar]) ?_
  · intro g u hg
    rcases key g u hg with ⟨d, k, rfl⟩ | ⟨d, k, rfl⟩ <;> (rw [L_tc]; exact Finset.mem_singleton_self _)
  · intro g u hg
    rcases key g u hg with ⟨d, k, rfl⟩ | ⟨d, k, rfl⟩
    · rw [lv_1]; decide
    · rw [lv_3]; decide

/-- A wait on a first receive cell is allowed while only second-phase copies are owed. -/
theorem mayWait_recv (c : Dev nD) (k : Fin 31) (i : ℕ) :
    (levAts L lv : sProp 𝕄) ⊢ MayWait (c : Thread nD τ) (.dma (dmaS 1 k)) () (oweR 3 c i) := by
  refine MayOwe.of_cut (L := L) (lev := lv) 2 (fun p hp => by rw [Finset.mem_singleton.mp hp, L_tc]; exact Finset.mem_singleton_self _) ?_
    (fun p hp => by rw [Finset.mem_singleton.mp hp, lv_1]) ?_
  · intro g u hg
    obtain ⟨d, k, rfl⟩ := oweR_mem 3 c i g u hg
    rw [L_tc]; exact Finset.mem_singleton_self _
  · intro g u hg
    obtain ⟨d, k, rfl⟩ := oweR_mem 3 c i g u hg
    rw [lv_3]; decide

end Cert.Attn

end
-- ==== Proof.Steps.lean ====
/-
  One rule per kind of operation the kernel performs, each stated over the state of the phase it belongs to: what a
  device holds before and after its signal, its copy, its wait, its load or store of a block.
-/
module

public import proofs.«01_k».proof.Proof.Protocol
public import Idealize.ShloMosaic.Lib.ValueLayout
public import Mathlib.Tactic.Abel

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
abbrev PG (α : Type) : Type 1 := Prog (TpuEff nD τ sig (Elt F) Λ₀ .tc) α

/-! ## Runs: from `P`, the program ends, leaving `Ψ` of its value -/

def Runs {α : Type} (c : Dev nD) (P : sProp 𝕄) (p : PG (F := F) α) (Ψ : α → sProp 𝕄) : Prop :=
  P ⊢ wp frame (wpE (defs₀ (F := F)) 𝒱₀ (c : Thread nD τ) none) Set.univ p Ψ

section Basic
variable {α β : Type} {c : Dev nD} {P P₁ : sProp (MT nD τ sig Unit (Elt F) ℕ UU ℕ)} {v : α}
  {Ψ : α → sProp (MT nD τ sig Unit (Elt F) ℕ UU ℕ)} {Ω : β → sProp (MT nD τ sig Unit (Elt F) ℕ UU ℕ)}

theorem Runs.pure (h : P ⊢ Ψ v) : Runs (F := F) c P (Pure.pure v) Ψ := by
  show P ⊢ wp frame (wpE (defs₀ (F := F)) 𝒱₀ (c : Thread nD τ) none) Set.univ (.ret v) Ψ
  rw [wp_ret]; iintro H; imodintro; iapply h; iexact H
/-- What is to hold after the first of two programs is that the second runs. -/
def Then {α β : Type} (c : Dev nD) (k : α → PG (F := F) β) (Ω : β → sProp 𝕄) (x : α) : sProp 𝕄 :=
  wp frame (wpE (defs₀ (F := F)) 𝒱₀ (c : Thread nD τ) none) Set.univ (k x) Ω
theorem Runs.bind {p : PG (F := F) α} {k : α → PG (F := F) β} (h : Runs c P p (Then c k Ω)) : Runs c P (p >>= k) Ω := by
  unfold Runs at *; rw [wp_bind]; exact h
/-- The end of the first of two programs. -/
theorem Runs.next {k : α → PG (F := F) β} (h : Runs c P (k v) Ω) : Runs c P (Pure.pure v) (Then c k Ω) := Runs.pure h
/-- The state may be rearranged before going on. -/
theorem Runs.pre {p : PG (F := F) α} (hP : P ⊢ P₁) (h : Runs c P₁ p Ψ) : Runs c P p Ψ := hP.trans h
/-- An update may be made before going on. -/
theorem Runs.upd {p : PG (F := F) α} (hP : P ⊢ |={Set.univ}=> P₁) (h : Runs c P₁ p Ψ) : Runs c P p Ψ := by
  refine (hP.trans (fupd_mono h)).trans ?_
  rw [fupd_wp_eq]
/-- A resource at contents not chosen may be opened before going on. -/
theorem Runs.ex {ι : Type} {p : PG (F := F) α} {Φ : ι → sProp 𝕄} (h : ∀ i, Runs c (iprop(Φ i ∗ P)) p Ψ) :
    Runs c iprop((∃ i, Φ i) ∗ P) p Ψ := by
  unfold Runs at *
  iintro ⟨⟨%i, H⟩, HP⟩
  iapply (h i)
  isplitl [H] <;> iassumption
theorem Runs.deviceId {k : Dev nD → PG (F := F) α} (h : Runs c P (k c) Ψ) : Runs c P (Prog.lift .deviceId >>= k) Ψ := by
  unfold Runs at *
  show P ⊢ wp frame (wpE (defs₀ (F := F)) 𝒱₀ (c : Thread nD τ) none) Set.univ (.op .deviceId k) Ψ
  rw [wp_deviceId]; exact h

/-- A load through a memref of which elements including those read are held. -/
theorem Runs.load {cs : CoreSpace} {s : Shape} {e : EltTy} {m : Memref sig .tc cs s e} {r : LoadRect s} {hl : m.view.LoadsAt r}
    {k : (r.shape.Idx → Elt F e) → PG (F := F) α} {S : Finset (Idx (m.view.loc (c : Thread nD τ)))} {q : PosShare TreeShare}
    {f : Buf (Elt F) (m.view.loc (c : Thread nD τ))} (hS : m.view.setOn r.set ⊆ S) {x : r.shape.Idx → Elt F e}
    (hx : m.view.readAt (Elt F) r f = x)
    (h : Runs c iprop((m.view.loc (c : Thread nD τ) ↦[S]{q} f) ∗ P) (k x) Ψ) :
    Runs c iprop((m.view.loc (c : Thread nD τ) ↦[S]{q} f) ∗ P) (Prog.lift (.load m r hl) >>= k) Ψ := by
  unfold Runs at *
  subst hx
  show _ ⊢ wp frame (wpE (defs₀ (F := F)) 𝒱₀ (c : Thread nD τ) none) Set.univ (.op (.load m r hl) k) Ψ
  iintro ⟨Hp, HP⟩
  iapply (wp_load 𝒱₀ (c : Thread nD τ) none Set.univ (hl := hl) hS) $$ Hp
  iintro Hp
  iapply h
  isplitl [Hp] <;> iassumption

/-- A load whose result is not used. -/
theorem Runs.loadDead {cs : CoreSpace} {s : Shape} {e : EltTy} {m : Memref sig .tc cs s e} {r : LoadRect s} {hl : m.view.LoadsAt r}
    {k : (r.shape.Idx → Elt F e) → PG (F := F) α} {S : Finset (Idx (m.view.loc (c : Thread nD τ)))} {q : PosShare TreeShare}
    {f : Buf (Elt F) (m.view.loc (c : Thread nD τ))} (hS : m.view.setOn r.set ⊆ S)
    (h : ∀ x, Runs c iprop((m.view.loc (c : Thread nD τ) ↦[S]{q} f) ∗ P) (k x) Ψ) :
    Runs c iprop((m.view.loc (c : Thread nD τ) ↦[S]{q} f) ∗ P) (Prog.lift (.load m r hl) >>= k) Ψ :=
  Runs.load hS rfl (h _)

/-- A store through a memref of which elements including those written are held. -/
theorem Runs.store {cs : CoreSpace} {s : Shape} {e : EltTy} {m : Memref sig .tc cs s e} {r : Rect s} {x : r.shape.Idx → Elt F e}
    {Mk : Finset r.shape.Idx} {hx : (m.access r).Stores Mk} {hm : Mk = Finset.univ ∨ ∀ a, r.stride a = 1}
    {k : PUnit → PG (F := F) α} {S : Finset (Idx ((m.access r).loc (c : Thread nD τ)))}
    {f : Buf (Elt F) ((m.access r).loc (c : Thread nD τ))} (hS : (m.access r).setOn Mk ⊆ S)
    (h : Runs c iprop(((m.access r).loc (c : Thread nD τ) ↦[S]{fullShare} ((m.access r).write (Elt F) f x Mk)) ∗ P) (k ⟨⟩) Ψ) :
    Runs c iprop(((m.access r).loc (c : Thread nD τ) ↦[S]{fullShare} f) ∗ P) (Prog.lift (.store m r x Mk hx hm) >>= k) Ψ := by
  unfold Runs at *
  show _ ⊢ wp frame (wpE (defs₀ (F := F)) 𝒱₀ (c : Thread nD τ) none) Set.univ (.op (.store m r x Mk hx hm) k) Ψ
  iintro ⟨Hp, HP⟩
  iapply (wp_store 𝒱₀ (c : Thread nD τ) none Set.univ (hx := hx) (hm := hm) hS) $$ Hp
  iintro Hp
  iapply h
  isplitl [Hp] <;> iassumption

end Basic

/-! ## What every step may use -/

variable (Pv : Dev nD → PC (F := F)) (OUT : PC (F := F)) (K : GSem nD τ sig → ℕ)

/-- The levels; every barrier cell, its invariant and that it is ready; every transfer cell's invariant. -/
def env : sProp 𝕄 :=
  iprop(levAts L lv
    ∗ (bigSep Finset.univ fun d : Dev nD => iprop(cellInv ER (Rd Pv OUT) (K (barCell d)) (barCell d) ∗ reached ER (barCell d) 0))
    ∗ bigSep Finset.univ fun p : Fin 4 × Dev nD × Fin 31 => cellInv ER (Rd Pv OUT) (K (cell p.1 p.2.1 p.2.2)) (cell p.1 p.2.1 p.2.2))

instance env_persistent : BI.Persistent (env Pv OUT K) := by unfold env; infer_instance

/-- What may be waited for by the levels may be waited for here. -/
theorem env_may {P : sProp (MT nD τ sig Unit (Elt F) ℕ UU ℕ)} (h : (levAts L lv : sProp 𝕄) ⊢ P) : env Pv OUT K ⊢ P := by
  unfold env; iintro ⟨H, -, -⟩; iapply h; iexact H
theorem env_bar (d : Dev nD) : env Pv OUT K ⊢ iprop(cellInv ER (Rd Pv OUT) (K (barCell d)) (barCell d) ∗ reached ER (barCell d) 0) := by
  have h : (bigSep Finset.univ fun d : Dev nD => iprop(cellInv ER (Rd Pv OUT) (K (barCell d)) (barCell d) ∗ reached ER (barCell d) 0))
      ⊢ iprop(cellInv ER (Rd Pv OUT) (K (barCell d)) (barCell d) ∗ reached ER (barCell d) 0) := bigSep_elim (Finset.mem_univ d)
  unfold env; iintro ⟨-, H, -⟩
  iapply h; iexact H
theorem env_cell (a : Fin 4) (d : Dev nD) (k : Fin 31) : env Pv OUT K ⊢ cellInv ER (Rd Pv OUT) (K (cell a d k)) (cell a d k) := by
  have h : (bigSep Finset.univ fun p : Fin 4 × Dev nD × Fin 31 => cellInv ER (Rd Pv OUT) (K (cell p.1 p.2.1 p.2.2)) (cell p.1 p.2.1 p.2.2))
      ⊢ cellInv ER (Rd Pv OUT) (K (cell a d k)) (cell a d k) := bigSep_elim (Finset.mem_univ (a, d, k))
  unfold env; iintro ⟨-, -, H⟩
  iapply h; iexact H

/-- The device's own transfer cells are ready. -/
def rch (c : Dev nD) : sProp 𝕄 := bigSep Finset.univ fun p : Fin 4 × Fin 31 => reached ER (cell p.1 c p.2) 0
instance rch_persistent (c : Dev nD) : BI.Persistent (rch c : sProp 𝕄) := by unfold rch; infer_instance
theorem rch_at (c : Dev nD) (a : Fin 4) (k : Fin 31) : (rch c : sProp 𝕄) ⊢ reached ER (cell a c k) 0 := by
  unfold rch
  exact bigSep_elim (Finset.mem_univ (a, k)) (Φ := fun p : Fin 4 × Fin 31 => (reached ER (cell p.1 c p.2) 0 : sProp 𝕄))

/-- What is owed, whatever has been waited for. -/
def owe (c : Dev nD) (O : CellTallies nD τ sig Unit) : sProp 𝕄 := iprop(∃ W, owes (c : Thread nD τ) O W)

variable {α : Type} {c : Dev nD} {R : sProp (MT nD τ sig Unit (Elt F) ℕ UU ℕ)}
  {Ψ : α → sProp (MT nD τ sig Unit (Elt F) ℕ UU ℕ)}

theorem rem_split (k : Fin 31) (Φ : Fin 31 → sProp 𝕄) : bigSep (rem k.val) Φ = iprop(Φ k ∗ bigSep (rem (k.val + 1)) Φ) := by
  rw [rem_eq k, bigSep_insert (not_mem_rem k)]; rfl
theorem don_split (k : Fin 31) (Φ : Fin 31 → sProp 𝕄) : bigSep (don (k.val + 1)) Φ = iprop(Φ k ∗ bigSep (don k.val) Φ) := by
  rw [don_eq k, bigSep_insert (not_mem_don k)]; rfl

/-! ## The signals -/

/-- What signal number `k` hands over. -/
def sigRes (c : Dev nD) (k : Fin 31) : sProp 𝕄 :=
  iprop(dutyTok ER (barCell (nx c k)) 0 (rev k) ∗ (∃ f, sPts c (rev k) f) ∗ ∃ f, oPts c (nx c k) fullShare f)

def SigSt (c : Dev nD) (i : ℕ) : sProp 𝕄 :=
  iprop(env Pv OUT K ∗ rch c ∗ owe c (oweB c i + (oweR 1 c 0 + oweR 3 c 0)) ∗ bigSep (rem i) (sigRes c))

theorem Runs.signal {i : ℕ} (hi : i < 31) {n : Dev nD} (hn : n.val = (c.val + (i + 1)) % 32) {k : PUnit → PG (F := F) α}
    (h : Runs c iprop(SigSt Pv OUT K c (i + 1) ∗ R) (k ⟨⟩) Ψ) :
    Runs c iprop(SigSt Pv OUT K c i ∗ R) (semSignalWord n barS 1#32 >>= k) Ψ := by
  unfold Runs at *
  obtain rfl : n = nx c ⟨i, hi⟩ := Fin.ext hn
  show _ ⊢ wp frame (wpE (defs₀ (F := F)) 𝒱₀ (c : Thread nD τ) none) Set.univ (.op (.semSignal (Dev.tc (nx c ⟨i, hi⟩)) barS ((1 : ℕ) : ℤ)) k) Ψ
  have hO : oweB c i + (oweR 1 c 0 + oweR 3 c 0) = oweB c (i + 1) + (oweR 1 c 0 + oweR 3 c 0) + tallyAt (barCell (nx c ⟨i, hi⟩)) () 1 := by
    rw [show oweB c i = _ from oweB_step c ⟨i, hi⟩]; abel
  unfold SigSt at h ⊢
  rw [show ∀ Φ : Fin 31 → sProp 𝕄, bigSep (rem i) Φ = iprop(Φ ⟨i, hi⟩ ∗ bigSep (rem (i + 1)) Φ) from rem_split ⟨i, hi⟩]
  unfold owe sigRes at h ⊢
  iintro ⟨⟨#HE, #HR, ⟨%W, HO⟩, ⟨Ht, Hs, Ho⟩, Hrest⟩, HP⟩
  ihave Hb := (env_bar Pv OUT K (nx c ⟨i, hi⟩)) $$ HE
  icases Hb with ⟨Hinv, Hrch⟩
  iapply (Rounds.wp_signal 𝒱₀ ER (Rd Pv OUT) (c : Thread nD τ) none (dst := (nx c ⟨i, hi⟩ : Thread nD τ)) (sem := barS) (r := 0) (d := rev ⟨i, hi⟩)
      (κ := K (barCell (nx c ⟨i, hi⟩))) (by rw [duties_bar]; exact Finset.mem_univ _) (amount_bar Pv OUT _ 0 _) ()
      (O₀ := oweB c i + (oweR 1 c 0 + oweR 3 c 0)) (oweB c (i + 1) + (oweR 1 c 0 + oweR 3 c 0)) hO) $$ [HO Ht Hs Ho Hinv Hrch]
  · isplitl [Hinv]; · iexact Hinv
    isplitl [HO]; · iexact HO
    isplitl [Ht]; · iexact Ht
    isplitl [Hs Ho]
    · rw [payload_bar]; unfold barPay; rw [nx_nx_rev]
      isplitl [Hs]; · iexact Hs
      isplitl [Ho]; · iexact Ho
      isplitr; · iapply (rch_at c 1 (rev ⟨i, hi⟩)); iexact HR
      iapply (rch_at c 3 (rev ⟨i, hi⟩)); iexact HR
    · iexact Hrch
  iintro HO
  iapply h
  isplitl [HO Hrest]
  · isplitr; · iexact HE
    isplitr; · iexact HR
    isplitl [HO]; · iexists W; iexact HO
    iexact Hrest
  iexact HP

/-! ## The barrier -/

def BarSt (c : Dev nD) : sProp 𝕄 :=
  iprop(env Pv OUT K ∗ owe c (oweR 1 c 0 + oweR 3 c 0) ∗ cred (tallyAt (barCell c) () 31) ∗ atPos ER (barCell c) 0 ∅ 0)
/-- After the barrier: every other device's pieces are here. -/
def BarEnd (c : Dev nD) : sProp 𝕄 :=
  iprop(env Pv OUT K ∗ owe c (oweR 1 c 0 + oweR 3 c 0) ∗ atPos ER (barCell c) 1 ∅ 0 ∗ bigSep Finset.univ fun j => barPay c j)

theorem Runs.barrier {k : PUnit → PG (F := F) α} (h : Runs c iprop(BarEnd Pv OUT K c ∗ R) (k ⟨⟩) Ψ) :
    Runs c iprop(BarSt Pv OUT K c ∗ R) (semWaitWord barS 31#32 >>= k) Ψ := by
  unfold Runs at *
  show _ ⊢ wp frame (wpE (defs₀ (F := F)) 𝒱₀ (c : Thread nD τ) none) Set.univ (.op (.semWait barS ((31 : ℕ) : ℤ)) k) Ψ
  unfold BarSt BarEnd at *
  unfold owe at *
  iintro ⟨⟨#HE, ⟨%W, HO⟩, Hc, Hat⟩, HP⟩
  have hm : env Pv OUT K ⊢ MayWait (c : Thread nD τ) (.reg barS) () (oweR 1 c 0 + oweR 3 c 0) := env_may Pv OUT K (mayWait_bar c 0 0)
  ihave Hb := (env_bar Pv OUT K c) $$ HE
  icases Hb with ⟨Hinv, -⟩
  iapply (Rounds.wp_wait_rest_token 𝒱₀ ER (Rd Pv OUT) (c : Thread nD τ) none (κ := K (barCell c))
      (wpE_semWait_eq 𝒱₀ (c : Thread nD τ) none Set.univ) (Set.mem_univ _) () (O := oweR 1 c 0 + oweR 3 c 0) (W := W) (R := 0) (m := 0) (T := ∅)
      ((Nat.zero_add 31).trans (expect_bar Pv OUT c).symm)) $$ [Hc HO Hat Hinv]
  · isplitl [Hinv]; · iexact Hinv
    isplitl [Hc]; · iexact Hc
    isplitl [HO]; · iexact HO
    isplitr; · iapply hm; iexact HE
    iexact Hat
  iintro ⟨HO, Hat, -, Hpay⟩
  ihave Hp := (Entails.of_eq (rest_bar Pv OUT c)) $$ Hpay
  iapply h
  isplitr [HP]
  · isplitr; · iexact HE
    isplitl [HO]; · iexists _; iexact HO
    isplitl [Hat]; · iexact Hat
    iexact Hp
  iexact HP

/-! ## Waits on a device's own transfer cells -/

/-- Waiting for the cells of array `a` in turn: those still to wait for, and those whose payload has come back. -/
def WaitSt (a : Fin 4) (c : Dev nD) (O : CellTallies nD τ sig Unit) (i : ℕ) : sProp 𝕄 :=
  iprop(env Pv OUT K ∗ owe c O
    ∗ (bigSep (rem i) fun k => iprop(atPos ER (cell a c k) 0 ∅ 0 ∗ cred (tallyAt (cell a c k) () N)))
    ∗ bigSep (don i) fun k => iprop(atPos ER (cell a c k) 1 ∅ 0 ∗ dmaPay Pv OUT c a k))

theorem Runs.wait {a : Fin 4} {O : CellTallies nD τ sig Unit} {i : ℕ} (hi : i < 31)
    (hO : (levAts L lv : sProp 𝕄) ⊢ MayWait (c : Thread nD τ) (.dma (dmaS a ⟨i, hi⟩)) () O)
    {sp sp' : Space} {s s' : Shape} {e e' : EltTy} {sem : DmaSem sig}
    {src : Memref sig .tc sp' s' e'} {dst : Memref sig .tc sp s e} {hsrc : src.view.WordExact} {hdst : dst.view.WordExact}
    (hs : sem = dmaS a ⟨i, hi⟩) (hN : dst.view.dmaCredit = N) {k : PUnit → PG (F := F) α}
    (h : Runs c iprop(WaitSt Pv OUT K a c O (i + 1) ∗ R) (k ⟨⟩) Ψ) :
    Runs c iprop(WaitSt Pv OUT K a c O i ∗ R) (Prog.lift (.waitDma2 sem src dst hsrc hdst) >>= k) Ψ := by
  unfold Runs at *
  subst hs
  show _ ⊢ wp frame (wpE (defs₀ (F := F)) 𝒱₀ (c : Thread nD τ) none) Set.univ (.op (.waitDma2 (dmaS a ⟨i, hi⟩) src dst hsrc hdst) k) Ψ
  unfold WaitSt at h ⊢
  rw [show ∀ Φ : Fin 31 → sProp 𝕄, bigSep (rem i) Φ = iprop(Φ ⟨i, hi⟩ ∗ bigSep (rem (i + 1)) Φ) from rem_split ⟨i, hi⟩]
  rw [show ∀ Φ : Fin 31 → sProp 𝕄, bigSep (don (i + 1)) Φ = iprop(Φ ⟨i, hi⟩ ∗ bigSep (don i) Φ) from don_split ⟨i, hi⟩] at h
  unfold owe at *
  iintro ⟨⟨#HE, ⟨%W, HO⟩, ⟨⟨Hat, Hc⟩, Hrem⟩, Hdon⟩, HP⟩
  have hm : env Pv OUT K ⊢ MayWait (c : Thread nD τ) (.dma (dmaS a ⟨i, hi⟩)) () O := env_may Pv OUT K hO
  ihave Hinv := (env_cell Pv OUT K a c ⟨i, hi⟩) $$ HE
  iapply (Rounds.wp_wait_rest_token 𝒱₀ ER (Rd Pv OUT) (c : Thread nD τ) none (κ := K (cell a c ⟨i, hi⟩))
      (wpE_waitDma2_eq (src := src) (dst := dst) 𝒱₀ (c : Thread nD τ) none Set.univ) (Set.mem_univ _) () (O := O) (W := W) (R := 0) (m := 0) (T := ∅)
      ((Nat.zero_add _).trans (hN.trans (expect_dma Pv OUT a c ⟨i, hi⟩).symm))) $$ [Hc HO Hat Hinv]
  · isplitl [Hinv]; · iexact Hinv
    isplitl [Hc]; · rw [hN]; iexact Hc
    isplitl [HO]; · iexact HO
    isplitr; · iapply hm; iexact HE
    iexact Hat
  iintro ⟨HO, Hat, -, Hpay⟩
  ihave Hp := (Entails.of_eq (rest_dma Pv OUT a c ⟨i, hi⟩)) $$ Hpay
  iapply h
  isplitr [HP]
  · isplitr; · iexact HE
    isplitl [HO]; · iexists _; iexact HO
    isplitl [Hrem]; · iexact Hrem
    isplitr [Hdon]
    · isplitl [Hat] <;> iassumption
    iexact Hdon
  iexact HP

/-! ## The copies -/

/-- A block that landed in a scratch slot is what that slot is to hold. -/
theorem landed_slot (c : Dev nD) (k : Fin 31) (fd : SC (F := F)) :
    (sPts (nx c k) k ((slM k).view.write (Elt F) fd ((pM (nx c k)).view.read (Elt F) (Pv c)) Finset.univ) : sProp 𝕄)
      = sPts (nx c k) k (SCR Pv (nx c k)) := by
  refine pointsTo_congr fun i hi => ?_
  obtain ⟨x, -, rfl⟩ := Finset.mem_map.mp hi
  rw [View.write_emb_of_mem _ _ (Finset.mem_univ x)]
  have hr : (Shape.reshapeEquiv squeezes_S1x32x768_S32x768.numel_eq x : S1x32x768.Idx) = Fin.cons ⟨0, Nat.one_pos⟩ x :=
    Shape.reshapeEquiv_cons_one _ _
  have he : (slM k).view.emb x = (slo k).emb (Fin.cons ⟨0, Nat.one_pos⟩ x) := by
    show (slo k).emb (Shape.reshapeEquiv squeezes_S1x32x768_S32x768.numel_eq x) = _
    rw [hr]
  rw [he]
  show Pv c ((blk (nx c k)).emb x) = SCR Pv (nx c k) _
  have h0 : ((slo k).emb (Fin.cons ⟨0, Nat.one_pos⟩ x) : S31x32x768.Idx) 0 = k := Fin.ext (by
    rw [Rect.emb_apply]; show k.val + 1 * 0 = k.val; omega)
  unfold SCR
  rw [h0, pv_nx]
  congr 2
  funext a
  fin_cases a
  · exact Fin.ext (by rw [Rect.emb_apply]; show (x 0).val = 0 + 1 * (x 0).val; rw [Nat.one_mul, Nat.zero_add])
  · exact Fin.ext (by rw [Rect.emb_apply]; show (x 1).val = 0 + 1 * (x 1).val; rw [Nat.one_mul, Nat.zero_add])

/-- A result block that landed is that block of the result. -/
theorem landed_out (c : Dev nD) (k : Fin 31) (fd : PC (F := F)) :
    (oPts (nx c k) c fullShare ((oM c).view.write (Elt F) fd ((oM c).view.read (Elt F) OUT) Finset.univ) : sProp 𝕄)
      = oPts (nx c k) c fullShare OUT := by
  refine pointsTo_congr fun i hi => ?_
  obtain ⟨x, -, rfl⟩ := Finset.mem_map.mp hi
  rw [View.write_emb_of_mem _ _ (Finset.mem_univ x)]
  rfl

/-- Before copy number `k` of the first phase: the block to go, the slot it goes to, the tokens of the two duties it pays. -/
def snd1Res (c : Dev nD) (k : Fin 31) : sProp 𝕄 :=
  iprop(pPts c (nx c k) (Pv c) ∗ (∃ f, sPts (nx c k) k f) ∗ dutyTok ER (cell 0 c k) 0 0 ∗ dutyTok ER (cell 1 (nx c k) k) 0 0
    ∗ reached ER (cell 1 (nx c k) k) 0)
def Snd1St (c : Dev nD) (i : ℕ) : sProp 𝕄 :=
  iprop(env Pv OUT K ∗ rch c ∗ owe c (oweR 1 c i + oweR 3 c 0) ∗ (bigSep (rem i) (snd1Res Pv c))
    ∗ bigSep (don i) fun k => cred (tallyAt (cell 0 c k) () N))

theorem Runs.send1 {i : ℕ} (hi : i < 31) {n : Dev nD} (hn : n.val = (c.val + (i + 1)) % 32)
    {off : Fin 2 → ℕ} {inb : ∀ a, off a + S32x768.size a ≤ S1024x768.size a} (hoff : off = ![32 * n.val, 0])
    {s₁ s₂ : DmaSem sig} (h₁ : s₁ = dmaS 0 ⟨i, hi⟩) (h₂ : s₂ = dmaS 1 ⟨i, hi⟩)
    {hst : ∀ a, (Rect.unit (s := S1024x768) off S32x768.size inb).stride a = 1}
    {dst : Memref sig .tc .vmem S32x768 .bf16} (hd : dst = slM ⟨i, hi⟩) {hsc : dst.view.ref.isScScratch = false}
    {hsrc : ((Memref.whole cc0_scratch2).slice (Rect.unit (s := S1024x768) off S32x768.size inb) hst).view.WordExact} {hdst : dst.view.WordExact}
    {hsem : DmaTarget.Typed .vmem (.dma s₂) (.remote (Dev.tc n) dst (.dma s₁) hsc)}
    {k : PUnit → PG (F := F) α}
    (h : Runs c iprop(Snd1St Pv OUT K c (i + 1) ∗ R) (k ⟨⟩) Ψ) :
    Runs c iprop(Snd1St Pv OUT K c i ∗ R)
      (Prog.lift (.enqueueDma ((Memref.whole cc0_scratch2).slice (Rect.unit (s := S1024x768) off S32x768.size inb) hst)
        (.remote (Dev.tc n) dst (.dma s₁) hsc) (.dma s₂) hsrc hdst hsem) >>= k) Ψ := by
  unfold Runs at *
  subst hoff h₁ h₂ hd
  obtain rfl : n = nx c ⟨i, hi⟩ := Fin.ext hn
  have hO : oweR 1 c i + oweR 3 c 0 = oweR 1 c (i + 1) + oweR 3 c 0 + tallyAt (cell 1 (nx c ⟨i, hi⟩) ⟨i, hi⟩) () N := by
    rw [show oweR 1 c i = _ from oweR_step 1 c ⟨i, hi⟩]; abel
  unfold Snd1St at h ⊢
  rw [show ∀ Φ : Fin 31 → sProp 𝕄, bigSep (rem i) Φ = iprop(Φ ⟨i, hi⟩ ∗ bigSep (rem (i + 1)) Φ) from rem_split ⟨i, hi⟩]
  rw [show ∀ Φ : Fin 31 → sProp 𝕄, bigSep (don (i + 1)) Φ = iprop(Φ ⟨i, hi⟩ ∗ bigSep (don i) Φ) from don_split ⟨i, hi⟩] at h
  unfold owe snd1Res at *
  show _ ⊢ wp frame (wpE (defs₀ (F := F)) 𝒱₀ (c : Thread nD τ) none) Set.univ
    (.op (.enqueueDma (pM (nx c ⟨i, hi⟩)) (.remote (Dev.tc (nx c ⟨i, hi⟩)) (slM ⟨i, hi⟩) (.dma (dmaS 0 ⟨i, hi⟩)) hsc) (.dma (dmaS 1 ⟨i, hi⟩)) hsrc hdst hsem) k) Ψ
  iintro ⟨⟨#HE, #HR, ⟨%W, HO⟩, ⟨⟨Hp, ⟨%fd, Hs⟩, Ht₁, Ht₂, Hr₂⟩, Hrem⟩, Hdon⟩, HP⟩
  ihave Hi₁ := (env_cell Pv OUT K 0 c ⟨i, hi⟩) $$ HE
  ihave Hi₂ := (env_cell Pv OUT K 1 (nx c ⟨i, hi⟩) ⟨i, hi⟩) $$ HE
  ihave Hr₁ := (rch_at c 0 ⟨i, hi⟩) $$ HR
  iapply (Rounds.wp_send_pointsTo 𝒱₀ ER (Rd Pv OUT) (c : Thread nD τ) none (c' := (nx c ⟨i, hi⟩ : Thread nD τ)) (src := pM (nx c ⟨i, hi⟩)) (dst := slM ⟨i, hi⟩)
      (sS := .dma (dmaS 0 ⟨i, hi⟩)) (sem := .dma (dmaS 1 ⟨i, hi⟩)) (q := fullShare) (fs := Pv c) (fd := fd) (κ₁ := K (cell 0 c ⟨i, hi⟩)) (κ₂ := K (cell 1 (nx c ⟨i, hi⟩) ⟨i, hi⟩))
      (r₁ := 0) (r₂ := 0) (d₁ := 0) (d₂ := 0)
      (by rw [duties_dma]; exact Finset.mem_singleton_self _) (by rw [duties_dma]; exact Finset.mem_singleton_self _)
      () () N (credit_s ⟨i, hi⟩) (amount_dma Pv OUT 0 c _ 0 0) (amount_dma Pv OUT 1 (nx c ⟨i, hi⟩) _ 0 0) (O₀ := oweR 1 c i + oweR 3 c 0) (oweR 1 c (i + 1) + oweR 3 c 0) hO (W := W)
      (by rw [payload_dma, pay_0])
      (by rw [payload_dma, pay_1]; exact Entails.of_eq (landed_slot Pv c ⟨i, hi⟩ fd))) $$ [Hp Hs HO Ht₁ Ht₂ Hr₁ Hr₂ Hi₁ Hi₂]
  · isplitl [Hi₁]; · iexact Hi₁
    isplitl [Hi₂]; · iexact Hi₂
    isplitl [Hp]; · iexact Hp
    isplitl [Hs]; · iexact Hs
    isplitl [HO]; · iexact HO
    isplitl [Ht₁]; · iexact Ht₁
    isplitl [Hr₁]; · iexact Hr₁
    isplitl [Ht₂]; · iexact Ht₂
    iexact Hr₂
  iintro ⟨Hc, HO⟩
  iapply h
  isplitr [HP]
  · isplitr; · iexact HE
    isplitr; · iexact HR
    isplitl [HO]; · iexists _; iexact HO
    isplitl [Hrem]; · iexact Hrem
    isplitl [Hc] <;> iassumption
  iexact HP

/-- Before copy number `k` of the second phase: a share of the own result block, the same block of the target's result, the
    tokens of the two duties it pays. -/
def snd2Res (c : Dev nD) (k : Fin 31) : sProp 𝕄 :=
  iprop(oPts c c (lend k) OUT ∗ (∃ f, oPts (nx c k) c fullShare f) ∗ dutyTok ER (cell 2 c k) 0 0 ∗ dutyTok ER (cell 3 (nx c k) k) 0 0
    ∗ reached ER (cell 3 (nx c k) k) 0)
def Snd2St (c : Dev nD) (i : ℕ) : sProp 𝕄 :=
  iprop(env Pv OUT K ∗ rch c ∗ owe c (oweR 3 c i) ∗ (bigSep (rem i) (snd2Res OUT c))
    ∗ bigSep (don i) fun k => cred (tallyAt (cell 2 c k) () N))

theorem Runs.send2 {i : ℕ} (hi : i < 31) {n : Dev nD} (hn : n.val = (c.val + (i + 1)) % 32)
    {off : Fin 2 → ℕ} {inb inb' : ∀ a, off a + S32x768.size a ≤ S1024x768.size a} (hoff : off = ![32 * c.val, 0])
    {s₁ s₂ : DmaSem sig} (h₁ : s₁ = dmaS 2 ⟨i, hi⟩) (h₂ : s₂ = dmaS 3 ⟨i, hi⟩)
    {hst : ∀ a, (Rect.unit (s := S1024x768) off S32x768.size inb).stride a = 1}
    {hst' : ∀ a, (Rect.unit (s := S1024x768) off S32x768.size inb').stride a = 1}
    {hsc : ((Memref.whole cc0_stg5_0).slice (Rect.unit (s := S1024x768) off S32x768.size inb') hst').view.ref.isScScratch = false}
    {hsrc : ((Memref.whole cc0_stg5_0).slice (Rect.unit (s := S1024x768) off S32x768.size inb) hst).view.WordExact}
    {hdst : ((Memref.whole cc0_stg5_0).slice (Rect.unit (s := S1024x768) off S32x768.size inb') hst').view.WordExact}
    {hsem : DmaTarget.Typed .vmem (.dma s₂) (.remote (Dev.tc n) ((Memref.whole cc0_stg5_0).slice (Rect.unit (s := S1024x768) off S32x768.size inb') hst') (.dma s₁) hsc)}
    {k : PUnit → PG (F := F) α}
    (h : Runs c iprop(Snd2St Pv OUT K c (i + 1) ∗ R) (k ⟨⟩) Ψ) :
    Runs c iprop(Snd2St Pv OUT K c i ∗ R)
      (Prog.lift (.enqueueDma ((Memref.whole cc0_stg5_0).slice (Rect.unit (s := S1024x768) off S32x768.size inb) hst)
        (.remote (Dev.tc n) ((Memref.whole cc0_stg5_0).slice (Rect.unit (s := S1024x768) off S32x768.size inb') hst') (.dma s₁) hsc) (.dma s₂) hsrc hdst hsem) >>= k)
      Ψ := by
  unfold Runs at *
  subst hoff h₁ h₂
  obtain rfl : n = nx c ⟨i, hi⟩ := Fin.ext hn
  have hO : oweR 3 c i = oweR 3 c (i + 1) + tallyAt (cell 3 (nx c ⟨i, hi⟩) ⟨i, hi⟩) () N := by
    rw [show oweR 3 c i = _ from oweR_step 3 c ⟨i, hi⟩]; abel
  unfold Snd2St at h ⊢
  rw [show ∀ Φ : Fin 31 → sProp 𝕄, bigSep (rem i) Φ = iprop(Φ ⟨i, hi⟩ ∗ bigSep (rem (i + 1)) Φ) from rem_split ⟨i, hi⟩]
  rw [show ∀ Φ : Fin 31 → sProp 𝕄, bigSep (don (i + 1)) Φ = iprop(Φ ⟨i, hi⟩ ∗ bigSep (don i) Φ) from don_split ⟨i, hi⟩] at h
  unfold owe snd2Res at *
  show _ ⊢ wp frame (wpE (defs₀ (F := F)) 𝒱₀ (c : Thread nD τ) none) Set.univ
    (.op (.enqueueDma (oM c) (.remote (Dev.tc (nx c ⟨i, hi⟩)) (oM c) (.dma (dmaS 2 ⟨i, hi⟩)) hsc) (.dma (dmaS 3 ⟨i, hi⟩)) hsrc hdst hsem) k) Ψ
  iintro ⟨⟨#HE, #HR, ⟨%W, HO⟩, ⟨⟨Hp, ⟨%fd, Hs⟩, Ht₁, Ht₂, Hr₂⟩, Hrem⟩, Hdon⟩, HP⟩
  ihave Hi₁ := (env_cell Pv OUT K 2 c ⟨i, hi⟩) $$ HE
  ihave Hi₂ := (env_cell Pv OUT K 3 (nx c ⟨i, hi⟩) ⟨i, hi⟩) $$ HE
  ihave Hr₁ := (rch_at c 2 ⟨i, hi⟩) $$ HR
  iapply (Rounds.wp_send_pointsTo 𝒱₀ ER (Rd Pv OUT) (c : Thread nD τ) none (c' := (nx c ⟨i, hi⟩ : Thread nD τ)) (src := oM c) (dst := oM c)
      (sS := .dma (dmaS 2 ⟨i, hi⟩)) (sem := .dma (dmaS 3 ⟨i, hi⟩)) (q := lend ⟨i, hi⟩) (fs := OUT) (fd := fd) (κ₁ := K (cell 2 c ⟨i, hi⟩)) (κ₂ := K (cell 3 (nx c ⟨i, hi⟩) ⟨i, hi⟩))
      (r₁ := 0) (r₂ := 0) (d₁ := 0) (d₂ := 0)
      (by rw [duties_dma]; exact Finset.mem_singleton_self _) (by rw [duties_dma]; exact Finset.mem_singleton_self _)
      () () N (credit_o c) (amount_dma Pv OUT 2 c _ 0 0) (amount_dma Pv OUT 3 (nx c ⟨i, hi⟩) _ 0 0) (O₀ := oweR 3 c i) (oweR 3 c (i + 1)) hO (W := W)
      (by rw [payload_dma, pay_2])
      (by rw [payload_dma, pay_3, pv_nx]; exact Entails.of_eq (landed_out OUT c ⟨i, hi⟩ fd))) $$ [Hp Hs HO Ht₁ Ht₂ Hr₁ Hr₂ Hi₁ Hi₂]
  · isplitl [Hi₁]; · iexact Hi₁
    isplitl [Hi₂]; · iexact Hi₂
    isplitl [Hp]; · iexact Hp
    isplitl [Hs]; · iexact Hs
    isplitl [HO]; · iexact HO
    isplitl [Ht₁]; · iexact Ht₁
    isplitl [Hr₁]; · iexact Hr₁
    isplitl [Ht₂]; · iexact Ht₂
    iexact Hr₂
  iintro ⟨Hc, HO⟩
  iapply h
  isplitr [HP]
  · isplitr; · iexact HE
    isplitr; · iexact HR
    isplitl [HO]; · iexists _; iexact HO
    isplitl [Hrem]; · iexact Hrem
    isplitl [Hc] <;> iassumption
  iexact HP

end Cert.Attn

end
-- ==== Proof.Local.lean ====
/-
  What each device computes on its own before it talks: the projected queries, the attention heads, the partial product with
  its slice of the output weights; and the loads and stores that compute them.
-/
module

public import proofs.«01_k».proof.Proof.Steps
public import Idealize.ShloMosaic.Lib.Pipeline.Value
public import Idealize.ShloMosaic.Lib.Pointwise.Index

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

/-- What a device's region starts from: the activations, its columns of the query weights, its heads' keys and values, its rows
    of the output weights. -/
structure Ins (F : FTy → Type) where
  x : Vec F S1024x768 .bf16
  wq : Vec F S768x512 .bf16
  k : Vec F S2x512x512 .bf16
  v : Vec F S2x512x512 .bf16
  wo : Vec F S512x768 .bf16

/-- Which pairs of positions attend. -/
def maskV : IVec S512x512 1 :=
  k0_pay11 (k0_pay7 k0_pay2 k0_pay3 k0_pay4) (k0_pay8 k0_pay2 k0_pay3 k0_pay4) (k0_pay9 k0_pay2 k0_pay3 k0_pay4) k0_pay10

/-- The projected queries. -/
def qv (I : Ins F) : Vec F S1024x512 .bf16 := k0_pay1 I.x I.wq

/-- A 512×64 piece of the queries, and a 1×512×64 piece of the keys or values, at an offset. -/
def rd2 (f : Vec F S1024x512 .bf16) (off : Fin 2 → ℕ) (inb : ∀ a, off a + S512x64.size a ≤ S1024x512.size a) : Vec F S512x64 .bf16 :=
  fun y => f ((Rect.unit (s := S1024x512) off S512x64.size inb).emb y)
def rd3 (f : Vec F S2x512x512 .bf16) (off : Fin 3 → ℕ) (inb : ∀ a, off a + S1x512x64.size a ≤ S2x512x512.size a) : Vec F S1x512x64 .bf16 :=
  fun y => f ((Rect.unit (s := S2x512x512) off S1x512x64.size inb).emb y)

theorem inb2 (j : ℕ) (hj : j < 16) : ∀ a, (![512 * (j / 8), 64 * (j % 8)] : Fin 2 → ℕ) a + S512x64.size a ≤ S1024x512.size a := by
  refine Fin.forall_fin_two.2 ⟨?_, ?_⟩
  · show 512 * (j / 8) + 512 ≤ 1024; omega
  · show 64 * (j % 8) + 64 ≤ 512; omega
theorem inb3 (j : ℕ) (hj : j < 16) : ∀ a, (![j / 8, 0, 64 * (j % 8)] : Fin 3 → ℕ) a + S1x512x64.size a ≤ S2x512x512.size a := by
  intro a
  fin_cases a
  · show j / 8 + 1 ≤ 2; omega
  · show 0 + 512 ≤ 512; omega
  · show 64 * (j % 8) + 64 ≤ 512; omega

/-- Head number `j` (batch `j / 8`, head `j % 8` of the device's eight). -/
def head (I : Ins F) (j : ℕ) (hj : j < 16) : Vec F S512x64 .bf16 :=
  k0_pay19 maskV (rd2 (qv I) ![512 * (j / 8), 64 * (j % 8)] (inb2 j hj)) (rd3 I.k ![j / 8, 0, 64 * (j % 8)] (inb3 j hj))
    (rd3 I.v ![j / 8, 0, 64 * (j % 8)] (inb3 j hj))

theorem head_lt (i : S1024x512.Idx) : 8 * ((i 0).val / 512) + (i 1).val / 64 < 16 := by
  have h0 : (i 0).val < 1024 := (i 0).isLt
  have h1 : (i 1).val < 512 := (i 1).isLt
  omega

/-- All heads side by side. -/
def ctx (I : Ins F) : Vec F S1024x512 .bf16 := fun i =>
  head I (8 * ((i 0).val / 512) + (i 1).val / 64) (head_lt i)
    (ix2 ⟨(i 0).val % 512, Nat.mod_lt _ (by decide)⟩ ⟨(i 1).val % 64, Nat.mod_lt _ (by decide)⟩)

/-- The device's partial product. -/
def part (I : Ins F) : Vec F S1024x768 .bf16 := k0_pay45 I.wo (ctx I)

/-! ## Loads and stores of whole buffers -/

/-- A whole buffer of the device. -/
abbrev wPts (r : Ref sig .tc) (c : Dev nD) (f : r.ty.Contents (Elt F)) : sProp 𝕄 :=
  (Memref.whole r).view.loc (c : Thread nD τ) ↦[Finset.univ]{fullShare} f

section Steps
variable {α : Type} {c : Dev nD} {R S S' B : sProp (MT nD τ sig Unit (Elt F) ℕ UU ℕ)}
  {Ψ : α → sProp (MT nD τ sig Unit (Elt F) ℕ UU ℕ)}

/-- A load from a buffer that is part of a larger state. -/
theorem Runs.loadIn {cs : CoreSpace} {s : Shape} {e : EltTy} {m : Memref sig .tc cs s e} {ρ : LoadRect s} {hl : m.view.LoadsAt ρ}
    {k : (ρ.shape.Idx → Elt F e) → PG (F := F) α} {f : Buf (Elt F) (m.view.loc (c : Thread nD τ))}
    (hS : S ⊣⊢ iprop((m.view.loc (c : Thread nD τ) ↦[Finset.univ]{fullShare} f) ∗ B))
    {x : ρ.shape.Idx → Elt F e} (hx : m.view.readAt (Elt F) ρ f = x)
    (h : Runs c iprop(S ∗ R) (k x) Ψ) :
    Runs c iprop(S ∗ R) (Prog.lift (.load m ρ hl) >>= k) Ψ := by
  refine Runs.pre (P₁ := iprop((m.view.loc (c : Thread nD τ) ↦[Finset.univ]{fullShare} f) ∗ (B ∗ R))) ((sep_mono_left hS.1).trans sep_assoc.1) ?_
  refine Runs.load (Finset.subset_univ _) hx ?_
  exact Runs.pre (P₁ := iprop(S ∗ R)) (sep_assoc.2.trans (sep_mono_left hS.2)) h

/-- A store into a buffer that is part of a larger state. -/
theorem Runs.storeIn {cs : CoreSpace} {s : Shape} {e : EltTy} {m : Memref sig .tc cs s e} {ρ : Rect s} {x : ρ.shape.Idx → Elt F e}
    {hx : (m.access ρ).Stores Finset.univ} {hm} {f : Buf (Elt F) ((m.access ρ).loc (c : Thread nD τ))}
    {k : PUnit → PG (F := F) α} (hS : S ⊢ iprop(((m.access ρ).loc (c : Thread nD τ) ↦[Finset.univ]{fullShare} f) ∗ B))
    (hS' : iprop(((m.access ρ).loc (c : Thread nD τ) ↦[Finset.univ]{fullShare} ((m.access ρ).write (Elt F) f x Finset.univ)) ∗ B) ⊢ S')
    (h : Runs c iprop(S' ∗ R) (k ⟨⟩) Ψ) :
    Runs c iprop(S ∗ R) (Prog.lift (.store m ρ x Finset.univ hx hm) >>= k) Ψ := by
  refine Runs.pre (P₁ := iprop(((m.access ρ).loc (c : Thread nD τ) ↦[Finset.univ]{fullShare} f) ∗ (B ∗ R))) ((sep_mono_left hS).trans sep_assoc.1) ?_
  refine Runs.store (f := f) (Finset.subset_univ _) ?_
  exact Runs.pre (P₁ := iprop(S' ∗ R)) (sep_assoc.2.trans (sep_mono_left hS')) h

/-! ## The queries -/

/-- Before the queries are written, and after. -/
def InSt (I : Ins F) (c : Dev nD) (q : Vec F S1024x512 .bf16) : sProp 𝕄 :=
  iprop(wPts cc0_stg0_0 c I.x ∗ wPts cc0_stg1_0 c I.wq ∗ wPts cc0_scratch0 c q)

theorem InSt_x (I : Ins F) (q) : InSt I c q ⊣⊢ iprop(wPts cc0_stg0_0 c I.x ∗ (wPts cc0_stg1_0 c I.wq ∗ wPts cc0_scratch0 c q)) := by
  unfold InSt; exact .rfl
theorem InSt_wq (I : Ins F) (q) : InSt I c q ⊣⊢ iprop(wPts cc0_stg1_0 c I.wq ∗ (wPts cc0_stg0_0 c I.x ∗ wPts cc0_scratch0 c q)) := by
  unfold InSt
  constructor
  · iintro ⟨H₁, H, H₂⟩; isplitl [H]; · iexact H
    isplitl [H₁] <;> iassumption
  · iintro ⟨H, H₁, H₂⟩; isplitl [H₁]; · iexact H₁
    isplitl [H] <;> iassumption
theorem InSt_q (I : Ins F) (q) : InSt I c q ⊣⊢ iprop(wPts cc0_scratch0 c q ∗ (wPts cc0_stg0_0 c I.x ∗ wPts cc0_stg1_0 c I.wq)) := by
  unfold InSt
  constructor
  · iintro ⟨H₁, H₂, H⟩; isplitl [H]; · iexact H
    isplitl [H₁] <;> iassumption
  · iintro ⟨H, H₁, H₂⟩; isplitl [H₁]; · iexact H₁
    isplitl [H₂] <;> iassumption

theorem Runs.ld_x {I : Ins F} {q} {off : Fin 2 → ℕ} {inb : ∀ a, off a + S1024x768.size a ≤ S1024x768.size a} (hz : off = fun _ => 0) {hl}
    {k : Vec F S1024x768 .bf16 → PG (F := F) α} (h : Runs c iprop(InSt I c q ∗ R) (k I.x) Ψ) :
    Runs c iprop(InSt I c q ∗ R) (Prog.lift (.load (Memref.whole cc0_stg0_0) (Rect.unit (s := S1024x768) off S1024x768.size inb).toLoadRect hl) >>= k) Ψ :=
  Runs.loadIn (m := Memref.whole cc0_stg0_0) (InSt_x I q) (Memref.readAt_unit_zero (Elt F) cc0_stg0_0 hz inb I.x) h

theorem Runs.ld_wq {I : Ins F} {q} {off : Fin 2 → ℕ} {inb : ∀ a, off a + S768x512.size a ≤ S768x512.size a} (hz : off = fun _ => 0) {hl}
    {k : Vec F S768x512 .bf16 → PG (F := F) α} (h : Runs c iprop(InSt I c q ∗ R) (k I.wq) Ψ) :
    Runs c iprop(InSt I c q ∗ R) (Prog.lift (.load (Memref.whole cc0_stg1_0) (Rect.unit (s := S768x512) off S768x512.size inb).toLoadRect hl) >>= k) Ψ :=
  Runs.loadIn (m := Memref.whole cc0_stg1_0) (InSt_wq I q) (Memref.readAt_unit_zero (Elt F) cc0_stg1_0 hz inb I.wq) h

theorem Runs.ld_q0 {I : Ins F} {q} {off : Fin 2 → ℕ} {inb : ∀ a, off a + S1024x512.size a ≤ S1024x512.size a} (hz : off = fun _ => 0) {hl}
    {k : Vec F S1024x512 .bf16 → PG (F := F) α} (h : Runs c iprop(InSt I c q ∗ R) (k q) Ψ) :
    Runs c iprop(InSt I c q ∗ R) (Prog.lift (.load (Memref.whole cc0_scratch0) (Rect.unit (s := S1024x512) off S1024x512.size inb).toLoadRect hl) >>= k) Ψ :=
  Runs.loadIn (m := Memref.whole cc0_scratch0) (InSt_q I q) (Memref.readAt_unit_zero (Elt F) cc0_scratch0 hz inb q) h

theorem Runs.st_q {I : Ins F} {q w} {off : Fin 2 → ℕ} {inb : ∀ a, off a + S1024x512.size a ≤ S1024x512.size a} (hz : off = fun _ => 0)
    (hw : w = qv I) {hx} {hm} {k : PUnit → PG (F := F) α}
    (h : Runs c iprop(InSt I c (qv I) ∗ R) (k ⟨⟩) Ψ) :
    Runs c iprop(InSt I c q ∗ R) (Prog.lift (.store (Memref.whole cc0_scratch0) (Rect.unit (s := S1024x512) off S1024x512.size inb) w Finset.univ hx hm) >>= k) Ψ := by
  subst hw
  refine Runs.storeIn (m := Memref.whole cc0_scratch0) (InSt_q I q).1 ?_ h
  exact (sep_mono_left (Entails.of_eq (congrArg (wPts cc0_scratch0 c) (Memref.write_access_unit_zero_univ (Elt F) cc0_scratch0 hz inb q (qv I))))).trans (InSt_q I _).2

/-! ## The heads -/

/-- The first `i` heads are written. -/
def Upto (I : Ins F) (i : ℕ) (f : Vec F S1024x512 .bf16) : Prop :=
  ∀ x : S1024x512.Idx, 8 * ((x 0).val / 512) + (x 1).val / 64 < i → f x = ctx I x

theorem Upto_zero (I : Ins F) (f) : Upto I 0 f := fun _ h => absurd h (Nat.not_lt_zero _)
theorem Upto_end (I : Ins F) {f} (h : Upto I 16 f) : f = ctx I := funext fun x => h x (head_lt x)

theorem Upto_step (I : Ins F) {i : ℕ} (hi : i < 16) {f : Vec F S1024x512 .bf16} (h : Upto I i f) {off : Fin 2 → ℕ}
    {inb : ∀ a, off a + S512x64.size a ≤ S1024x512.size a} (hoff : off = ![512 * (i / 8), 64 * (i % 8)]) {w} (hw : w = head I i hi) :
    Upto I (i + 1) (((Memref.whole cc0_scratch1).access (Rect.unit (s := S1024x512) off S512x64.size inb)).write (Elt F) f w Finset.univ) := by
  subst hoff hw
  intro x hx
  have h0 : (x 0).val < 1024 := (x 0).isLt
  have h1 : (x 1).val < 512 := (x 1).isLt
  by_cases he : 8 * ((x 0).val / 512) + (x 1).val / 64 = i
  · have hxe : x = ((Memref.whole cc0_scratch1).access (Rect.unit (s := S1024x512) ![512 * (i / 8), 64 * (i % 8)] S512x64.size inb)).emb
        (ix2 ⟨(x 0).val % 512, Nat.mod_lt _ (by decide)⟩ ⟨(x 1).val % 64, Nat.mod_lt _ (by decide)⟩) := by
      show x = (Rect.unit (s := S1024x512) ![512 * (i / 8), 64 * (i % 8)] S512x64.size inb).emb _
      funext a
      refine Fin.ext ?_
      rw [Rect.emb_apply]
      fin_cases a
      · show (x 0).val = 512 * (i / 8) + 1 * ((x 0).val % 512); omega
      · show (x 1).val = 64 * (i % 8) + 1 * ((x 1).val % 64); omega
    conv_lhs => rw [hxe]
    rw [View.write_emb_of_mem _ _ (Finset.mem_univ _)]
    unfold ctx
    subst he
    rfl
  · rw [View.write_of_not_mem]
    · exact h x (by omega)
    · intro hm
      rw [View.setOn_univ] at hm
      obtain ⟨y, -, hy⟩ := Finset.mem_map.mp hm
      have hy' : (Rect.unit (s := S1024x512) ![512 * (i / 8), 64 * (i % 8)] S512x64.size inb).emb y = x := hy
      have y0 : (y 0).val < 512 := (y 0).isLt
      have y1 : (y 1).val < 64 := (y 1).isLt
      have e0 : 512 * (i / 8) + 1 * (y 0).val = (x 0).val := by
        rw [← hy', Rect.emb_apply]; rfl
      have e1 : 64 * (i % 8) + 1 * (y 1).val = (x 1).val := by
        rw [← hy', Rect.emb_apply]; rfl
      omega

def HeadSt (I : Ins F) (c : Dev nD) (i : ℕ) : sProp 𝕄 :=
  iprop(wPts cc0_scratch0 c (qv I) ∗ wPts cc0_stg2_0 c I.k ∗ wPts cc0_stg3_0 c I.v ∗ ∃ f, ⌜Upto I i f⌝ ∗ wPts cc0_scratch1 c f)

theorem HeadSt_q (I : Ins F) (i : ℕ) : HeadSt I c i ⊣⊢ iprop(wPts cc0_scratch0 c (qv I) ∗ (wPts cc0_stg2_0 c I.k ∗ wPts cc0_stg3_0 c I.v
    ∗ ∃ f, ⌜Upto I i f⌝ ∗ wPts cc0_scratch1 c f)) := by unfold HeadSt; exact .rfl
theorem HeadSt_k (I : Ins F) (i : ℕ) : HeadSt I c i ⊣⊢ iprop(wPts cc0_stg2_0 c I.k ∗ (wPts cc0_scratch0 c (qv I) ∗ wPts cc0_stg3_0 c I.v
    ∗ ∃ f, ⌜Upto I i f⌝ ∗ wPts cc0_scratch1 c f)) := by
  unfold HeadSt
  constructor
  · iintro ⟨H₁, H, H₂⟩; isplitl [H]; · iexact H
    isplitl [H₁] <;> iassumption
  · iintro ⟨H, H₁, H₂⟩; isplitl [H₁]; · iexact H₁
    isplitl [H] <;> iassumption
theorem HeadSt_v (I : Ins F) (i : ℕ) : HeadSt I c i ⊣⊢ iprop(wPts cc0_stg3_0 c I.v ∗ (wPts cc0_scratch0 c (qv I) ∗ wPts cc0_stg2_0 c I.k
    ∗ ∃ f, ⌜Upto I i f⌝ ∗ wPts cc0_scratch1 c f)) := by
  unfold HeadSt
  constructor
  · iintro ⟨H₁, H₂, H, H₃⟩; isplitl [H]; · iexact H
    isplitl [H₁]; · iexact H₁
    isplitl [H₂] <;> iassumption
  · iintro ⟨H, H₁, H₂, H₃⟩; isplitl [H₁]; · iexact H₁
    isplitl [H₂]; · iexact H₂
    isplitl [H] <;> iassumption
/-- The state with the contents written so far opened. -/
def HeadAt (I : Ins F) (c : Dev nD) (f : Vec F S1024x512 .bf16) : sProp 𝕄 :=
  iprop(wPts cc0_scratch1 c f ∗ (wPts cc0_scratch0 c (qv I) ∗ wPts cc0_stg2_0 c I.k ∗ wPts cc0_stg3_0 c I.v))
theorem HeadSt_open {I : Ins F} {i : ℕ} {p : PG (F := F) α} (h : ∀ f, Upto I i f → Runs c iprop(HeadAt I c f ∗ R) p Ψ) :
    Runs c iprop(HeadSt I c i ∗ R) p Ψ := by
  unfold Runs at *
  unfold HeadSt
  iintro ⟨⟨H₁, H₂, H₃, ⟨%f, %hf, H⟩⟩, HR⟩
  iapply (h f hf)
  unfold HeadAt
  isplitr [HR]
  · isplitl [H]; · iexact H
    isplitl [H₁]; · iexact H₁
    isplitl [H₂] <;> iassumption
  iexact HR
theorem HeadSt_close (I : Ins F) (i : ℕ) (f) (hf : Upto I i f) : HeadAt I c f ⊢ HeadSt I c i := by
  unfold HeadSt HeadAt
  iintro ⟨H, H₁, H₂, H₃⟩
  isplitl [H₁]; · iexact H₁
  isplitl [H₂]; · iexact H₂
  isplitl [H₃]; · iexact H₃
  iexists f
  isplitr; · ipureintro; exact hf
  iexact H

theorem Runs.ld_q {I : Ins F} {i : ℕ} {off : Fin 2 → ℕ} {inb : ∀ a, off a + S512x64.size a ≤ S1024x512.size a} {hl}
    {k : Vec F S512x64 .bf16 → PG (F := F) α}
    (h : Runs c iprop(HeadSt I c i ∗ R) (k (rd2 (qv I) off inb)) Ψ) :
    Runs c iprop(HeadSt I c i ∗ R) (Prog.lift (.load (Memref.whole cc0_scratch0) (Rect.unit (s := S1024x512) off S512x64.size inb).toLoadRect hl) >>= k) Ψ :=
  Runs.loadIn (m := Memref.whole cc0_scratch0) (HeadSt_q I i) (x := rd2 (qv I) off inb) rfl h

theorem Runs.ld_k {I : Ins F} {i : ℕ} {off : Fin 3 → ℕ} {inb : ∀ a, off a + S1x512x64.size a ≤ S2x512x512.size a} {hl}
    {k : Vec F S1x512x64 .bf16 → PG (F := F) α}
    (h : Runs c iprop(HeadSt I c i ∗ R) (k (rd3 I.k off inb)) Ψ) :
    Runs c iprop(HeadSt I c i ∗ R) (Prog.lift (.load (Memref.whole cc0_stg2_0) (Rect.unit (s := S2x512x512) off S1x512x64.size inb).toLoadRect hl) >>= k) Ψ :=
  Runs.loadIn (m := Memref.whole cc0_stg2_0) (HeadSt_k I i) (x := rd3 I.k off inb) rfl h

theorem Runs.ld_v {I : Ins F} {i : ℕ} {off : Fin 3 → ℕ} {inb : ∀ a, off a + S1x512x64.size a ≤ S2x512x512.size a} {hl}
    {k : Vec F S1x512x64 .bf16 → PG (F := F) α}
    (h : Runs c iprop(HeadSt I c i ∗ R) (k (rd3 I.v off inb)) Ψ) :
    Runs c iprop(HeadSt I c i ∗ R) (Prog.lift (.load (Memref.whole cc0_stg3_0) (Rect.unit (s := S2x512x512) off S1x512x64.size inb).toLoadRect hl) >>= k) Ψ :=
  Runs.loadIn (m := Memref.whole cc0_stg3_0) (HeadSt_v I i) (x := rd3 I.v off inb) rfl h

/-- The load of the old contents before a store, not used. -/
theorem Runs.ld_c {I : Ins F} {i : ℕ} {off : Fin 2 → ℕ} {inb : ∀ a, off a + S512x64.size a ≤ S1024x512.size a} {hl}
    {k : Vec F S512x64 .bf16 → PG (F := F) α}
    (h : ∀ x, Runs c iprop(HeadSt I c i ∗ R) (k x) Ψ) :
    Runs c iprop(HeadSt I c i ∗ R) (Prog.lift (.load (Memref.whole cc0_scratch1) (Rect.unit (s := S1024x512) off S512x64.size inb).toLoadRect hl) >>= k) Ψ :=
  HeadSt_open fun f hf => Runs.loadIn (S := HeadAt I c f) (m := Memref.whole cc0_scratch1) (f := f) .rfl rfl
    (Runs.pre (P₁ := iprop(HeadSt I c i ∗ R)) (sep_mono_left (HeadSt_close I i f hf)) (h _))

theorem Runs.st_c {I : Ins F} {i : ℕ} (hi : i < 16) {off : Fin 2 → ℕ} {inb : ∀ a, off a + S512x64.size a ≤ S1024x512.size a}
    (hoff : off = ![512 * (i / 8), 64 * (i % 8)]) {w} (hw : w = head I i hi) {hx} {hm} {k : PUnit → PG (F := F) α}
    (h : Runs c iprop(HeadSt I c (i + 1) ∗ R) (k ⟨⟩) Ψ) :
    Runs c iprop(HeadSt I c i ∗ R) (Prog.lift (.store (Memref.whole cc0_scratch1) (Rect.unit (s := S1024x512) off S512x64.size inb) w Finset.univ hx hm) >>= k) Ψ :=
  HeadSt_open fun f hf => by
    have hu := Upto_step I hi hf (inb := inb) hoff hw
    refine Runs.storeIn (S := HeadAt I c f) (S' := HeadSt I c (i + 1)) (m := Memref.whole cc0_scratch1) (f := f)
      (B := iprop(wPts cc0_scratch0 c (qv I) ∗ wPts cc0_stg2_0 c I.k ∗ wPts cc0_stg3_0 c I.v)) ?_ ?_ h
    · unfold HeadAt; exact Entails.of_eq rfl
    · refine BIBase.Entails.trans ?_ (HeadSt_close I (i + 1) _ hu)
      unfold HeadAt; exact Entails.of_eq rfl

/-! ## The partial product -/

def PartSt (I : Ins F) (c : Dev nD) (p : Vec F S1024x768 .bf16) : sProp 𝕄 :=
  iprop(wPts cc0_stg4_0 c I.wo ∗ wPts cc0_scratch1 c (ctx I) ∗ wPts cc0_scratch2 c p)

theorem PartSt_ctx (I : Ins F) (p) : PartSt I c p ⊣⊢ iprop(wPts cc0_scratch1 c (ctx I) ∗ (wPts cc0_stg4_0 c I.wo ∗ wPts cc0_scratch2 c p)) := by
  unfold PartSt
  constructor
  · iintro ⟨H₁, H, H₂⟩; isplitl [H]; · iexact H
    isplitl [H₁] <;> iassumption
  · iintro ⟨H, H₁, H₂⟩; isplitl [H₁]; · iexact H₁
    isplitl [H] <;> iassumption
theorem PartSt_p (I : Ins F) (p) : PartSt I c p ⊣⊢ iprop(wPts cc0_scratch2 c p ∗ (wPts cc0_stg4_0 c I.wo ∗ wPts cc0_scratch1 c (ctx I))) := by
  unfold PartSt
  constructor
  · iintro ⟨H₁, H₂, H⟩; isplitl [H]; · iexact H
    isplitl [H₁] <;> iassumption
  · iintro ⟨H, H₁, H₂⟩; isplitl [H₁]; · iexact H₁
    isplitl [H₂] <;> iassumption

theorem PartSt_wo (I : Ins F) (p) : PartSt I c p ⊣⊢ iprop(wPts cc0_stg4_0 c I.wo ∗ (wPts cc0_scratch1 c (ctx I) ∗ wPts cc0_scratch2 c p)) := by
  unfold PartSt; exact .rfl

theorem Runs.ld_wo {I : Ins F} {p} {off : Fin 2 → ℕ} {inb : ∀ a, off a + S512x768.size a ≤ S512x768.size a} (hz : off = fun _ => 0) {hl}
    {k : Vec F S512x768 .bf16 → PG (F := F) α} (h : Runs c iprop(PartSt I c p ∗ R) (k I.wo) Ψ) :
    Runs c iprop(PartSt I c p ∗ R) (Prog.lift (.load (Memref.whole cc0_stg4_0) (Rect.unit (s := S512x768) off S512x768.size inb).toLoadRect hl) >>= k) Ψ :=
  Runs.loadIn (m := Memref.whole cc0_stg4_0) (PartSt_wo I p) (Memref.readAt_unit_zero (Elt F) cc0_stg4_0 hz inb I.wo) h

theorem Runs.ld_ctx {I : Ins F} {p} {off : Fin 2 → ℕ} {inb : ∀ a, off a + S1024x512.size a ≤ S1024x512.size a} (hz : off = fun _ => 0) {hl}
    {k : Vec F S1024x512 .bf16 → PG (F := F) α} (h : Runs c iprop(PartSt I c p ∗ R) (k (ctx I)) Ψ) :
    Runs c iprop(PartSt I c p ∗ R) (Prog.lift (.load (Memref.whole cc0_scratch1) (Rect.unit (s := S1024x512) off S1024x512.size inb).toLoadRect hl) >>= k) Ψ :=
  Runs.loadIn (m := Memref.whole cc0_scratch1) (PartSt_ctx I p) (Memref.readAt_unit_zero (Elt F) cc0_scratch1 hz inb (ctx I)) h

theorem Runs.ld_p0 {I : Ins F} {p} {off : Fin 2 → ℕ} {inb : ∀ a, off a + S1024x768.size a ≤ S1024x768.size a} (hz : off = fun _ => 0) {hl}
    {k : Vec F S1024x768 .bf16 → PG (F := F) α} (h : Runs c iprop(PartSt I c p ∗ R) (k p) Ψ) :
    Runs c iprop(PartSt I c p ∗ R) (Prog.lift (.load (Memref.whole cc0_scratch2) (Rect.unit (s := S1024x768) off S1024x768.size inb).toLoadRect hl) >>= k) Ψ :=
  Runs.loadIn (m := Memref.whole cc0_scratch2) (PartSt_p I p) (Memref.readAt_unit_zero (Elt F) cc0_scratch2 hz inb p) h

theorem Runs.st_p {I : Ins F} {p w} {off : Fin 2 → ℕ} {inb : ∀ a, off a + S1024x768.size a ≤ S1024x768.size a} (hz : off = fun _ => 0)
    (hw : w = part I) {hx} {hm} {k : PUnit → PG (F := F) α}
    (h : Runs c iprop(PartSt I c (part I) ∗ R) (k ⟨⟩) Ψ) :
    Runs c iprop(PartSt I c p ∗ R) (Prog.lift (.store (Memref.whole cc0_scratch2) (Rect.unit (s := S1024x768) off S1024x768.size inb) w Finset.univ hx hm) >>= k) Ψ := by
  subst hw
  refine Runs.storeIn (m := Memref.whole cc0_scratch2) (PartSt_p I p).1 ?_ h
  exact (sep_mono_left (Entails.of_eq (congrArg (wPts cc0_scratch2 c) (Memref.write_access_unit_zero_univ (Elt F) cc0_scratch2 hz inb p (part I))))).trans (PartSt_p I _).2

end Steps

end Cert.Attn

end
-- ==== Proof.Blocks.lean ====
/-
  Buffers cut into the blocks that change hands and put together again; what the reduction of a device's block computes; and the
  loads and stores of the reduction.
-/
module

public import proofs.«01_k».proof.Proof.Local
public import Idealize.ShloMosaic.Lib.Ring
public import Idealize.ShloMosaic.Lib.Pipeline.Value
public import Idealize.ShloMosaic.Lib.Pointwise.Index

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices: one, and those after it -/

theorem dev_split (c : Dev nD) (Φ : Dev nD → sProp (MT nD τ sig Unit (Elt F) ℕ UU ℕ)) :
    bigSep Finset.univ Φ = iprop(Φ c ∗ bigSep Finset.univ fun k => Φ (nx c k)) := by
  rw [bigSep_univ_split c]
  have h : Finset.univ.erase c = Finset.univ.map ⟨nx c, fun _ _ h => nx_inj c h⟩ := by
    ext d
    simp only [Finset.mem_erase, Finset.mem_univ, _root_.and_true, Finset.mem_map, _root_.true_and, Function.Embedding.coeFn_mk]
    exact ⟨exists_nx c d, fun ⟨k, hk⟩ => hk ▸ nx_ne c k⟩
  rw [h, bigSep_map]
  rfl

/-- Counting the copies the other way round. -/
def revE : Fin 31 ≃ Fin 31 := ⟨rev, rev, rev_rev, rev_rev⟩

theorem dev_split' (c : Dev nD) (Φ : Dev nD → sProp (MT nD τ sig Unit (Elt F) ℕ UU ℕ)) :
    bigSep Finset.univ Φ = iprop(Φ c ∗ bigSep Finset.univ fun k => Φ (pv c k)) := by
  rw [dev_split c, bigSep_univ_equiv revE]
  exact congrArg (fun X => iprop(Φ c ∗ X)) (bigSep_congr fun k _ => congrArg Φ (nx_rev c k))

theorem rev_all (Φ : Fin 31 → sProp (MT nD τ sig Unit (Elt F) ℕ UU ℕ)) :
    bigSep Finset.univ Φ = bigSep Finset.univ fun k => Φ (rev k) := bigSep_univ_equiv revE Φ

/-! ## Blocks and slots -/

theorem mem_blk (b : Dev nD) (i : S1024x768.Idx) : i ∈ (blk b).set ↔ (i 0).val / 32 = b.val := by
  rw [Rect.mem_set_unit]
  have h1 : (i 1).val < 768 := (i 1).isLt
  constructor
  · intro h
    have h0 : 32 * b.val ≤ (i 0).val ∧ (i 0).val < 32 * b.val + 32 := h 0
    omega
  · intro h
    refine Fin.forall_fin_two.2 ⟨?_, ?_⟩
    · show 32 * b.val ≤ (i 0).val ∧ (i 0).val < 32 * b.val + 32; omega
    · show 0 ≤ (i 1).val ∧ (i 1).val < 0 + 768; omega
theorem mem_slo (k : Fin 31) (i : S31x32x768.Idx) : i ∈ (slo k).set ↔ i 0 = k := by
  rw [Rect.mem_set_unit]
  have h1 : (i 1).val < 32 := (i 1).isLt
  have h2 : (i 2).val < 768 := (i 2).isLt
  constructor
  · intro h
    have h0 : k.val ≤ (i 0).val ∧ (i 0).val < k.val + 1 := h 0
    exact Fin.ext (by omega)
  · rintro rfl
    intro a
    fin_cases a
    · show (i 0).val ≤ (i 0).val ∧ (i 0).val < (i 0).val + 1; omega
    · show 0 ≤ (i 1).val ∧ (i 1).val < 0 + 32; omega
    · show 0 ≤ (i 2).val ∧ (i 2).val < 0 + 768; omega

theorem blk_disj (b b' : Dev nD) (h : b ≠ b') : Disjoint (blk b).set (blk b').set := by
  rw [Finset.disjoint_left]
  intro i hi hi'
  exact h (Fin.ext (((mem_blk b i).1 hi).symm.trans ((mem_blk b' i).1 hi')))
theorem slo_disj (b b' : Fin 31) (h : b ≠ b') : Disjoint (slo b).set (slo b').set := by
  rw [Finset.disjoint_left]
  intro i hi hi'
  exact h (((mem_slo b i).1 hi).symm.trans ((mem_slo b' i).1 hi'))
theorem cover_of {ι κ : Type} [Fintype ι] [DecidableEq ι] [Fintype κ] (I : κ → Finset ι) (h : ∀ i, ∃ b, i ∈ I b) :
    Finset.univ.biUnion I = Finset.univ := by
  ext i
  simp only [Finset.mem_biUnion, Finset.mem_univ, _root_.true_and, iff_true]
  exact h i
/-- The block a row lies in. -/
def rowDev (i : S1024x768.Idx) : Dev nD := ⟨(i 0).val / 32, by have h : (i 0).val < 1024 := (i 0).isLt; show _ < 32; omega⟩

/-- The slot an element lies in. -/
def slotOf (i : S31x32x768.Idx) : Fin 31 := i 0

theorem p_set (b : Dev nD) : (pM b).view.set = (blk b).set := View.set_slice_whole _ _
theorem o_set (b : Dev nD) : (oM b).view.set = (blk b).set := View.set_slice_whole _ _
theorem s_set (k : Fin 31) : (slM k).view.set = (slo k).set := (View.set_reshape _ _).trans (View.set_slice_whole _ _)

/-- The partial products, block by block. -/
theorem p_blocks (c : Dev nD) (f : PC (F := F)) : (wPts cc0_scratch2 c f : sProp 𝕄) = bigSep Finset.univ fun b => pPts c b f := by
  have hd : ∀ b b' : Dev nD, b ≠ b' → Disjoint (pM b).view.set (pM b').view.set := fun b b' h => by
    rw [p_set, p_set]; exact blk_disj b b' h
  exact Ring.pointsTo_blocks (ℓ := (Memref.whole cc0_scratch2).view.loc (c : Thread nD τ)) (fun b : Dev nD => (pM b).view.set) hd
    (cover_of _ fun i => ⟨rowDev i, by rw [p_set]; exact (mem_blk _ i).2 rfl⟩) (q := fullShare) f
/-- The result, block by block. -/
theorem o_blocks (c : Dev nD) (f : PC (F := F)) : (wPts cc0_stg5_0 c f : sProp 𝕄) = bigSep Finset.univ fun b => oPts c b fullShare f := by
  have hd : ∀ b b' : Dev nD, b ≠ b' → Disjoint (oM b).view.set (oM b').view.set := fun b b' h => by
    rw [o_set, o_set]; exact blk_disj b b' h
  exact Ring.pointsTo_blocks (ℓ := (Memref.whole cc0_stg5_0).view.loc (c : Thread nD τ)) (fun b : Dev nD => (oM b).view.set) hd
    (cover_of _ fun i => ⟨rowDev i, by rw [o_set]; exact (mem_blk _ i).2 rfl⟩) (q := fullShare) f
/-- The scratch, slot by slot. -/
theorem s_blocks (c : Dev nD) (f : SC (F := F)) : (wPts cc0_scratch3 c f : sProp 𝕄) = bigSep Finset.univ fun k => sPts c k f := by
  have hd : ∀ b b' : Fin 31, b ≠ b' → Disjoint (slM b).view.set (slM b').view.set := fun b b' h => by
    rw [s_set, s_set]; exact slo_disj b b' h
  exact Ring.pointsTo_blocks (ℓ := (Memref.whole cc0_scratch3).view.loc (c : Thread nD τ)) (fun b : Fin 31 => (slM b).view.set) hd
    (cover_of _ fun i => ⟨slotOf i, by rw [s_set]; exact (mem_slo _ i).2 rfl⟩) (q := fullShare) f
/-- The share of a device's own result block no copy borrows. -/
def keep : PosShare TreeShare := ShareLeaves.leaf 5 fullShare (⟨31, by omega⟩ : Fin (2 ^ 5))

/-- A device's own result block, as what it keeps and what it lends. -/
theorem own_shares (c : Dev nD) (f : PC (F := F)) :
    (oPts c c fullShare f : sProp 𝕄) = iprop(oPts c c keep f ∗ bigSep Finset.univ fun k => oPts c c (lend k) f) := by
  have h0 : (oPts c c fullShare f : sProp 𝕄) = bigSep Finset.univ fun i : Fin (2 ^ 5) => oPts c c (ShareLeaves.leaf 5 fullShare i) f :=
    ShareLeaves.pointsTo_leaves (ℓ := (oM c).view.loc (c : Thread nD τ)) (oM c).view.set f 5 fullShare
  rw [h0, bigSep_univ_split (⟨31, by omega⟩ : Fin (2 ^ 5))]
  have h : Finset.univ.erase (⟨31, by omega⟩ : Fin (2 ^ 5))
      = Finset.univ.map ⟨fun k : Fin 31 => (⟨k.val, by have := k.isLt; omega⟩ : Fin (2 ^ 5)), fun a b h => Fin.ext (by simpa using h)⟩ := by
    ext d
    have hd : d.val < 32 := d.isLt
    simp only [Finset.mem_erase, Finset.mem_univ, _root_.and_true, Finset.mem_map, _root_.true_and, Function.Embedding.coeFn_mk, ne_eq, Fin.ext_iff]
    constructor
    · intro h; exact ⟨⟨d.val, by omega⟩, rfl⟩
    · rintro ⟨k, hk⟩ h31; have hk' : k.val = d.val := hk; have := k.isLt; omega
  rw [h, bigSep_map]
  rfl

/-! ## The reduction -/

section Red
variable (Pv : Dev nD → PC (F := F))

/-- A device's own block of its partial products. -/
def own (c : Dev nD) : Vec F S32x768 .bf16 := fun y => Pv c ((blk c).emb y)
/-- What is in slot `k`. -/
def slotV (c : Dev nD) (k : Fin 31) : Vec F S1x32x768 .bf16 := fun y => SCR Pv c ((slo k).emb y)
/-- The running sum after `n` slots. -/
def acc (c : Dev nD) : (n : ℕ) → n ≤ 31 → FVec F S32x768 .f32
  | 0, _ => extf .f32 (own Pv c) bitsLt_bf16_f32
  | n + 1, h => addf (acc c n (Nat.le_of_succ_le h)) (extf .f32 (shapeCast S32x768 (slotV Pv c ⟨n, h⟩) shapeCasts_S1x32x768_S32x768 : FVec F S32x768 .bf16) bitsLt_bf16_f32)
/-- A device's block of the result. -/
def red (c : Dev nD) : Vec F S32x768 .bf16 := truncf .bf16 (acc Pv c 31 (le_refl _)) bitsLt_bf16_f32
/-- The whole result. -/
def outOf : PC (F := F) := fun i => red Pv (rowDev i)
  (ix2 ⟨(i 0).val % 32, Nat.mod_lt _ (by decide)⟩ ⟨(i 1).val, (i 1).isLt⟩)

theorem outOf_blk (c : Dev nD) (y : S32x768.Idx) : outOf Pv ((blk c).emb y) = red Pv c y := by
  have y0 : (y 0).val < 32 := (y 0).isLt
  have e0 : ((blk c).emb y 0).val = 32 * c.val + 1 * (y 0).val := Rect.emb_apply _ _ _
  have e1 : ((blk c).emb y 1).val = 0 + 1 * (y 1).val := Rect.emb_apply _ _ _
  unfold outOf
  have hc : rowDev ((blk c).emb y) = c := Fin.ext (by
    show ((blk c).emb y 0).val / 32 = c.val
    rw [e0]; omega)
  rw [hc]
  congr 1
  funext a
  fin_cases a
  · exact Fin.ext (by show ((blk c).emb y 0).val % 32 = (y 0).val; rw [e0]; omega)
  · exact Fin.ext (by show ((blk c).emb y 1).val = (y 1).val; rw [e1]; omega)

end Red

section Steps
variable (Pv : Dev nD → PC (F := F)) (OUT : PC (F := F)) (K : GSem nD τ sig → ℕ)
variable {α : Type} {c : Dev nD} {R S S' B : sProp (MT nD τ sig Unit (Elt F) ℕ UU ℕ)}
  {Ψ : α → sProp (MT nD τ sig Unit (Elt F) ℕ UU ℕ)}

theorem Runs.ld_own {off : Fin 2 → ℕ} {inb : ∀ a, off a + S32x768.size a ≤ S1024x768.size a} (hoff : off = ![32 * c.val, 0]) {hl}
    {k : Vec F S32x768 .bf16 → PG (F := F) α} (h : Runs c iprop(pPts c c (Pv c) ∗ R) (k (own Pv c)) Ψ) :
    Runs c iprop(pPts c c (Pv c) ∗ R)
      (Prog.lift (.load (Memref.whole cc0_scratch2) (Rect.unit (s := S1024x768) off S32x768.size inb).toLoadRect hl) >>= k) Ψ := by
  subst hoff
  exact Runs.load (m := Memref.whole cc0_scratch2) (S := (pM c).view.set) (f := Pv c) (by rw [p_set]; exact Finset.map_subset_iff_subset_preimage.2 (fun x hx => by simpa using hx)) rfl h

theorem slot_sub (k : Fin 31) : (Memref.whole cc0_scratch3).view.setOn (slo k).toLoadRect.set ⊆ (slM k).view.set := by
  rw [s_set]; intro x hx
  obtain ⟨y, hy, rfl⟩ := Finset.mem_map.mp hx
  simpa using hy

/-- A load of a slot that has landed. -/
theorem Runs.ld_slot {O : CellTallies nD τ sig Unit} {i : ℕ} {j : Fin 31} (hj : j.val < i) {off : Fin 3 → ℕ}
    {inb : ∀ a, off a + S1x32x768.size a ≤ S31x32x768.size a} (hoff : off = ![j.val, 0, 0]) {hl}
    {k : Vec F S1x32x768 .bf16 → PG (F := F) α} (h : Runs c iprop(WaitSt Pv OUT K 1 c O i ∗ R) (k (slotV Pv c j)) Ψ) :
    Runs c iprop(WaitSt Pv OUT K 1 c O i ∗ R)
      (Prog.lift (.load (Memref.whole cc0_scratch3) (Rect.unit (s := S31x32x768) off S1x32x768.size inb).toLoadRect hl) >>= k) Ψ := by
  subst hoff
  have hm : j ∈ don i := by simp only [don, Finset.mem_filter, Finset.mem_univ, true_and]; exact hj
  have hs : ∀ Φ : Fin 31 → sProp 𝕄, bigSep (don i) Φ = iprop(Φ j ∗ bigSep ((don i).erase j) Φ) := fun Φ => bigSep_erase hm
  have e : WaitSt Pv OUT K 1 c O i ⊣⊢ iprop(sPts c j (SCR Pv c) ∗ (atPos ER (cell 1 c j) 1 ∅ 0 ∗ env Pv OUT K ∗ owe c O
    ∗ (bigSep (rem i) fun k => iprop(atPos ER (cell 1 c k) 0 ∅ 0 ∗ cred (tallyAt (cell 1 c k) () N)))
    ∗ bigSep ((don i).erase j) fun k => iprop(atPos ER (cell 1 c k) 1 ∅ 0 ∗ dmaPay Pv OUT c 1 k))) := by
    unfold WaitSt
    rw [hs, pay_1]
    constructor
    · iintro ⟨H1, H2, H3, ⟨H4, H5⟩, H6⟩
      isplitl [H5]; · iexact H5
      isplitl [H4]; · iexact H4
      isplitl [H1]; · iexact H1
      isplitl [H2]; · iexact H2
      isplitl [H3] <;> iassumption
    · iintro ⟨H5, H4, H1, H2, H3, H6⟩
      isplitl [H1]; · iexact H1
      isplitl [H2]; · iexact H2
      isplitl [H3]; · iexact H3
      isplitr [H6]
      · isplitl [H4]; · iexact H4
        iexact H5
      iexact H6
  refine Runs.pre ((sep_mono_left e.1).trans sep_assoc.1) ?_
  refine Runs.load (m := Memref.whole cc0_scratch3) (S := (slM j).view.set) (f := SCR Pv c) (slot_sub j) rfl ?_
  exact Runs.pre (sep_assoc.2.trans (sep_mono_left e.2)) h

theorem blk_sub (b : Dev nD) : (Memref.whole cc0_stg5_0).view.setOn (blk b).toLoadRect.set ⊆ (oM b).view.set := by
  rw [o_set]; intro x hx
  obtain ⟨y, hy, rfl⟩ := Finset.mem_map.mp hx
  first | exact hy | simpa using hy
theorem blk_acc (b : Dev nD) : ((Memref.whole cc0_stg5_0).access (blk b)).setOn Finset.univ ⊆ (oM b).view.set := by
  rw [View.setOn_univ]

/-- The load of the old contents of the device's result block, not used. -/
theorem Runs.ld_o {off : Fin 2 → ℕ} {inb : ∀ a, off a + S32x768.size a ≤ S1024x768.size a} (hoff : off = ![32 * c.val, 0]) {hl}
    {k : Vec F S32x768 .bf16 → PG (F := F) α} (h : ∀ x, Runs c iprop((∃ f, oPts c c fullShare f) ∗ R) (k x) Ψ) :
    Runs c iprop((∃ f, oPts c c fullShare f) ∗ R)
      (Prog.lift (.load (Memref.whole cc0_stg5_0) (Rect.unit (s := S1024x768) off S32x768.size inb).toLoadRect hl) >>= k) Ψ := by
  subst hoff
  refine Runs.ex fun f => ?_
  refine Runs.load (m := Memref.whole cc0_stg5_0) (S := (oM c).view.set) (f := f) (blk_sub c) rfl ?_
  refine Runs.pre ?_ (h _)
  iintro ⟨H, HR⟩
  isplitl [H]
  · iexists f; iexact H
  iexact HR

/-- The store of the device's result block. -/
theorem Runs.st_o {off : Fin 2 → ℕ} {inb : ∀ a, off a + S32x768.size a ≤ S1024x768.size a} (hoff : off = ![32 * c.val, 0])
    {w : Vec F S32x768 .bf16} (hw : w = red Pv c) {hx} {hm} {k : PUnit → PG (F := F) α}
    (h : Runs c iprop(oPts c c fullShare (outOf Pv) ∗ R) (k ⟨⟩) Ψ) :
    Runs c iprop((∃ f, oPts c c fullShare f) ∗ R)
      (Prog.lift (.store (Memref.whole cc0_stg5_0) (Rect.unit (s := S1024x768) off S32x768.size inb) w Finset.univ hx hm) >>= k) Ψ := by
  subst hoff hw
  refine Runs.ex fun f => ?_
  refine Runs.store (c := c) (m := Memref.whole cc0_stg5_0) (r := blk c) (S := (oM c).view.set) (f := f) (blk_acc c) ?_
  refine Runs.pre (sep_mono_left (Entails.of_eq ?_)) h
  refine pointsTo_congr fun i hi => ?_
  obtain ⟨x, -, rfl⟩ := Finset.mem_map.mp hi
  refine (View.write_emb_of_mem (v := (Memref.whole cc0_stg5_0).access (blk c)) f (red Pv c) (Finset.mem_univ x)).trans ?_
  exact (outOf_blk Pv c x).symm

end Steps

end Cert.Attn

end
-- ==== Proof.Phases.lean ====
/-
  What a device holds between the phases of the kernel's body, and how what one phase leaves is what the next one starts from.
-/
module

public import proofs.«01_k».proof.Proof.Blocks
public import Idealize.ShloMosaic.Lib.Pipeline.Value
public import Idealize.ShloMosaic.Lib.Pointwise.Index

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem join {ι : Type} [Fintype ι] (Φ Ψ : ι → sProp 𝕄) :
    iprop(bigSep Finset.univ Φ ∗ bigSep Finset.univ Ψ) = bigSep Finset.univ fun i => iprop(Φ i ∗ Ψ i) := (bigSep_sep _ _ _).symm

/-! ## Pieces -/

def inE (I : Ins F) (c : Dev nD) : sProp 𝕄 := iprop(wPts cc0_stg0_0 c I.x ∗ wPts cc0_stg1_0 c I.wq ∗ ∃ q, wPts cc0_scratch0 c q)
def headE (I : Ins F) (c : Dev nD) : sProp 𝕄 := iprop(wPts cc0_stg2_0 c I.k ∗ wPts cc0_stg3_0 c I.v ∗ ∃ q, wPts cc0_scratch1 c q)
def partE (I : Ins F) (c : Dev nD) : sProp 𝕄 := iprop(wPts cc0_stg4_0 c I.wo ∗ ∃ q, wPts cc0_scratch2 c q)
def barE (c : Dev nD) : sProp 𝕄 := iprop(cred (tallyAt (barCell c) () 31) ∗ atPos ER (barCell c) 0 ∅ 0)
def ownE (c : Dev nD) : sProp 𝕄 := iprop(∃ f, oPts c c fullShare f)
/-- The tokens of the duties a device pays at its own cells `a` and at the other devices' cells `b`. -/
def toks (a b : Fin 4) (c : Dev nD) : sProp 𝕄 := bigSep Finset.univ fun k => iprop(dutyTok ER (cell a c k) 0 0 ∗ dutyTok ER (cell b (nx c k) k) 0 0)
/-- What a device waits for its receive cells with. -/
def rcvs (a : Fin 4) (c : Dev nD) : sProp 𝕄 := bigSep Finset.univ fun k => iprop(atPos ER (cell a c k) 0 ∅ 0 ∗ cred (tallyAt (cell a c k) () N))
def ats (a : Fin 4) (c : Dev nD) : sProp 𝕄 := bigSep Finset.univ fun k => atPos ER (cell a c k) 0 ∅ 0
def creds (a : Fin 4) (c : Dev nD) : sProp 𝕄 := bigSep Finset.univ fun k => cred (tallyAt (cell a c k) () N)
def sems (a : Fin 4) (c : Dev nD) : sProp 𝕄 := bigSep Finset.univ fun k => semVal (cell a c k) 0
/-- A device's block of every other device's result. -/
def oth (c : Dev nD) : sProp 𝕄 := bigSep Finset.univ fun k => iprop((∃ f, oPts (nx c k) c fullShare f) ∗ reached ER (cell 3 (nx c k) k) 0)
/-- What later phases need. -/
def tail (c : Dev nD) : sProp 𝕄 := iprop(toks 2 3 c ∗ rcvs 1 c ∗ rcvs 3 c ∗ ats 0 c ∗ ats 2 c)
/-- The buffers no later phase touches. -/
def fin1 (I : Ins F) (c : Dev nD) : sProp 𝕄 := iprop(wPts cc0_stg0_0 c I.x ∗ wPts cc0_stg1_0 c I.wq)
def fin2 (I : Ins F) (c : Dev nD) : sProp 𝕄 := iprop(fin1 I c ∗ wPts cc0_stg2_0 c I.k ∗ wPts cc0_stg3_0 c I.v ∗ ∃ q, wPts cc0_scratch0 c q)
def fin3 (I : Ins F) (c : Dev nD) : sProp 𝕄 := iprop(fin2 I c ∗ wPts cc0_stg4_0 c I.wo ∗ ∃ q, wPts cc0_scratch1 c q)

variable (Pv : Dev nD → PC (F := F)) (OUT : PC (F := F)) (K : GSem nD τ sig → ℕ)

def got (a : Fin 4) (c : Dev nD) : sProp 𝕄 := bigSep Finset.univ fun k => iprop(atPos ER (cell a c k) 1 ∅ 0 ∗ dmaPay Pv OUT c a k)
def base (c : Dev nD) : sProp 𝕄 := iprop(env Pv OUT K ∗ rch c ∗ owe c (oweR 1 c 0 + oweR 3 c 0))

variable {c : Dev nD} {I : Ins F} {X : sProp (MT nD τ sig Unit (Elt F) ℕ UU ℕ)}

/-! ## From one phase to the next -/

theorem to_in : iprop(SigSt Pv OUT K c 31 ∗ (inE I c ∗ X)) ⊢ iprop((∃ q, InSt I c q) ∗ (base Pv OUT K c ∗ X)) := by
  unfold SigSt inE InSt base
  rw [oweB_end, zero_add]
  iintro ⟨⟨#He, #Hr, HO, -⟩, ⟨H0, H1, ⟨%q, H2⟩⟩, HX⟩
  isplitl [H0 H1 H2]
  · iexists q
    isplitl [H0]; · iexact H0
    isplitl [H1] <;> iassumption
  isplitl [HO]
  · isplitr; · iexact He
    isplitr; · iexact Hr
    iexact HO
  iexact HX

theorem to_heads : iprop(InSt I c (qv I) ∗ (base Pv OUT K c ∗ headE I c ∗ X)) ⊢ iprop(HeadSt I c 0 ∗ (fin1 I c ∗ base Pv OUT K c ∗ X)) := by
  unfold InSt headE HeadSt fin1
  iintro ⟨⟨H0, H1, H2⟩, HB, ⟨H3, H4, ⟨%f, H5⟩⟩, HX⟩
  isplitl [H2 H3 H4 H5]
  · isplitl [H2]; · iexact H2
    isplitl [H3]; · iexact H3
    isplitl [H4]; · iexact H4
    iexists f
    isplitr; · ipureintro; exact Upto_zero I f
    iexact H5
  isplitl [H0 H1]
  · isplitl [H0] <;> iassumption
  isplitl [HB] <;> iassumption

theorem to_part : iprop(HeadSt I c 16 ∗ (fin1 I c ∗ base Pv OUT K c ∗ partE I c ∗ X))
    ⊢ iprop((∃ p, PartSt I c p) ∗ (fin2 I c ∗ base Pv OUT K c ∗ X)) := by
  unfold HeadSt partE PartSt fin2
  iintro ⟨⟨H2, H3, H4, ⟨%f, %hf, H5⟩⟩, H1, HB, ⟨H6, ⟨%p, H7⟩⟩, HX⟩
  obtain rfl := Upto_end I hf
  isplitl [H5 H6 H7]
  · iexists p
    isplitl [H6]; · iexact H6
    isplitl [H5] <;> iassumption
  isplitl [H1 H2 H3 H4]
  · isplitl [H1]; · iexact H1
    isplitl [H3]; · iexact H3
    isplitl [H4]; · iexact H4
    iexists _; iexact H2
  isplitl [HB] <;> iassumption

theorem to_bar : iprop(PartSt I c (part I) ∗ (fin2 I c ∗ base Pv OUT K c ∗ barE c ∗ X))
    ⊢ iprop(BarSt Pv OUT K c ∗ (rch c ∗ fin3 I c ∗ wPts cc0_scratch2 c (part I) ∗ X)) := by
  unfold PartSt base barE BarSt fin3
  iintro ⟨⟨H4, H5, H6⟩, H2, ⟨#He, #Hr, HO⟩, ⟨Hc, Hat⟩, HX⟩
  isplitl [HO Hc Hat]
  · isplitr; · iexact He
    isplitl [HO]; · iexact HO
    isplitl [Hc] <;> iassumption
  isplitr; · iexact Hr
  isplitl [H2 H4 H5]
  · isplitl [H2]; · iexact H2
    isplitl [H4]; · iexact H4
    iexists _; iexact H5
  isplitl [H6] <;> iassumption

theorem barPay_split (c : Dev nD) : (bigSep Finset.univ fun j => barPay c j : sProp 𝕄)
    ⊢ iprop((bigSep Finset.univ fun k => iprop((∃ f, sPts (nx c k) k f) ∗ reached ER (cell 1 (nx c k) k) 0)) ∗ oth c) := by
  unfold oth
  rw [join]
  refine bigSep_mono fun k _ => ?_
  show (_ : sProp 𝕄) ⊢ (_ : sProp 𝕄)
  unfold barPay
  iintro ⟨H1, H2, H3, H4⟩
  isplitl [H1 H3]
  · isplitl [H1] <;> iassumption
  isplitl [H2] <;> iassumption

theorem to_send1 : iprop(BarEnd Pv OUT K c ∗ (rch c ∗ fin3 I c ∗ wPts cc0_scratch2 c (Pv c) ∗ (ownE c ∗ toks 0 1 c ∗ X)))
    ⊢ iprop(Snd1St Pv OUT K c 0 ∗ (pPts c c (Pv c) ∗ (fin3 I c ∗ atPos ER (barCell c) 1 ∅ 0 ∗ oth c ∗ ownE c ∗ X))) := by
  unfold BarEnd Snd1St
  rw [p_blocks, dev_split c, rem_zero, don_zero, bigSep_empty]
  have hs : iprop((bigSep Finset.univ fun k => iprop((∃ f, sPts (nx c k) k f) ∗ reached ER (cell 1 (nx c k) k) 0))
      ∗ (bigSep Finset.univ fun k => pPts c (nx c k) (Pv c)) ∗ toks 0 1 c) ⊢ bigSep Finset.univ (snd1Res Pv c) := by
    unfold toks
    rw [join, join]
    refine bigSep_mono fun k _ => ?_
    show (_ : sProp 𝕄) ⊢ (_ : sProp 𝕄)
    unfold snd1Res
    iintro ⟨⟨H1, H2⟩, H3, H4, H5⟩
    isplitl [H3]; · iexact H3
    isplitl [H1]; · iexact H1
    isplitl [H4]; · iexact H4
    isplitl [H5] <;> iassumption
  iintro ⟨⟨#He, HO, Hat, Hb⟩, #Hr, H3, ⟨Hp, Hps⟩, Hown, Ht, HX⟩
  ihave Hb := (barPay_split c) $$ Hb
  icases Hb with ⟨Hsl, Hoth⟩
  isplitl [HO Hsl Hps Ht]
  · isplitr; · iexact He
    isplitr; · iexact Hr
    isplitl [HO]; · iexact HO
    isplitl [Hsl Hps Ht]
    · iapply hs
      isplitl [Hsl]; · iexact Hsl
      isplitl [Hps] <;> iassumption
    iempintro
  isplitl [Hp]; · iexact Hp
  isplitl [H3]; · iexact H3
  isplitl [Hat]; · iexact Hat
  isplitl [Hoth]; · iexact Hoth
  isplitl [Hown] <;> iassumption

/-- After the first phase's copies are sent. -/
def snt1 (c : Dev nD) : sProp 𝕄 := iprop(env Pv OUT K ∗ rch c ∗ owe c (oweR 3 c 0) ∗ creds 0 c)

theorem to_own : iprop(Snd1St Pv OUT K c 31 ∗ (pPts c c (Pv c) ∗ X)) ⊢ iprop(pPts c c (Pv c) ∗ (snt1 Pv OUT K c ∗ X)) := by
  unfold Snd1St snt1 creds
  rw [don_end, oweR_end, zero_add]
  iintro ⟨⟨#He, #Hr, HO, -, Hc⟩, Hp, HX⟩
  isplitl [Hp]; · iexact Hp
  isplitr [HX]
  · isplitr; · iexact He
    isplitr; · iexact Hr
    isplitl [HO] <;> iassumption
  iexact HX

theorem to_recv1 : iprop(pPts c c (Pv c) ∗ (snt1 Pv OUT K c ∗ (fin3 I c ∗ atPos ER (barCell c) 1 ∅ 0 ∗ oth c ∗ ownE c ∗ tail c)))
    ⊢ iprop(WaitSt Pv OUT K 1 c (oweR 3 c 0) 0 ∗ (ownE c ∗ pPts c c (Pv c) ∗ rch c ∗ creds 0 c ∗ fin3 I c ∗ atPos ER (barCell c) 1 ∅ 0 ∗ oth c
      ∗ toks 2 3 c ∗ rcvs 3 c ∗ ats 0 c ∗ ats 2 c)) := by
  unfold snt1 WaitSt tail
  rw [rem_zero, don_zero, bigSep_empty]
  iintro ⟨Hp, ⟨#He, #Hr, HO, Hc⟩, H3, Hat, Ho, Hown, Ht, Hr1, Hr3, Ha0, Ha2⟩
  isplitl [HO Hr1]
  · isplitr; · iexact He
    isplitl [HO]; · iexact HO
    isplitl [Hr1]; · unfold rcvs; iexact Hr1
    iempintro
  isplitl [Hown]; · iexact Hown
  isplitl [Hp]; · iexact Hp
  isplitr; · iexact Hr
  isplitl [Hc]; · iexact Hc
  isplitl [H3]; · iexact H3
  isplitl [Hat]; · iexact Hat
  isplitl [Ho]; · iexact Ho
  isplitl [Ht]; · iexact Ht
  isplitl [Hr3]; · iexact Hr3
  isplitl [Ha0] <;> iassumption

theorem to_out : iprop(WaitSt Pv OUT K 1 c (oweR 3 c 0) 31 ∗ (ownE c ∗ X)) ⊢ iprop((∃ f, oPts c c fullShare f) ∗ (WaitSt Pv OUT K 1 c (oweR 3 c 0) 31 ∗ X)) := by
  unfold ownE
  iintro ⟨H1, H2, HX⟩
  isplitl [H2]; · iexact H2
  isplitl [H1] <;> iassumption

theorem to_send2 : iprop(oPts c c fullShare OUT ∗ (WaitSt Pv OUT K 1 c (oweR 3 c 0) 31 ∗ (pPts c c (Pv c) ∗ rch c ∗ creds 0 c ∗ fin3 I c
      ∗ atPos ER (barCell c) 1 ∅ 0 ∗ oth c ∗ toks 2 3 c ∗ rcvs 3 c ∗ ats 0 c ∗ ats 2 c)))
    ⊢ iprop(Snd2St Pv OUT K c 0 ∗ (got Pv OUT 1 c ∗ oPts c c keep OUT ∗ pPts c c (Pv c) ∗ creds 0 c ∗ fin3 I c
      ∗ atPos ER (barCell c) 1 ∅ 0 ∗ rcvs 3 c ∗ ats 0 c ∗ ats 2 c)) := by
  unfold WaitSt Snd2St
  rw [own_shares, don_end, rem_zero, don_zero, bigSep_empty]
  have hs : iprop((bigSep Finset.univ fun k => oPts c c (lend k) OUT) ∗ oth c ∗ toks 2 3 c) ⊢ bigSep Finset.univ (snd2Res OUT c) := by
    unfold toks oth
    rw [join, join]
    refine bigSep_mono fun k _ => ?_
    show (_ : sProp 𝕄) ⊢ (_ : sProp 𝕄)
    unfold snd2Res
    iintro ⟨H3, ⟨H1, H2⟩, H4, H5⟩
    isplitl [H3]; · iexact H3
    isplitl [H1]; · iexact H1
    isplitl [H4]; · iexact H4
    isplitl [H5] <;> iassumption
  iintro ⟨⟨Hk, Hl⟩, ⟨#He, HO, -, Hg⟩, Hp, #Hr, Hc, H3, Hat, Ho, Ht, Hr3, Ha0, Ha2⟩
  isplitl [HO Hl Ho Ht]
  · isplitr; · iexact He
    isplitr; · iexact Hr
    isplitl [HO]; · iexact HO
    isplitl [Hl Ho Ht]
    · iapply hs
      isplitl [Hl]; · iexact Hl
      isplitl [Ho] <;> iassumption
    iempintro
  isplitl [Hg]; · unfold got; iexact Hg
  isplitl [Hk]; · iexact Hk
  isplitl [Hp]; · iexact Hp
  isplitl [Hc]; · iexact Hc
  isplitl [H3]; · iexact H3
  isplitl [Hat]; · iexact Hat
  isplitl [Hr3]; · iexact Hr3
  isplitl [Ha0] <;> iassumption

theorem to_recv2 : iprop(Snd2St Pv OUT K c 31 ∗ (got Pv OUT 1 c ∗ oPts c c keep OUT ∗ pPts c c (Pv c) ∗ creds 0 c ∗ fin3 I c
      ∗ atPos ER (barCell c) 1 ∅ 0 ∗ rcvs 3 c ∗ ats 0 c ∗ ats 2 c))
    ⊢ iprop(WaitSt Pv OUT K 3 c 0 0 ∗ (ats 0 c ∗ creds 0 c ∗ ats 2 c ∗ creds 2 c ∗ got Pv OUT 1 c ∗ oPts c c keep OUT ∗ pPts c c (Pv c) ∗ fin3 I c
      ∗ atPos ER (barCell c) 1 ∅ 0)) := by
  unfold Snd2St WaitSt
  rw [don_end, rem_zero, don_zero, bigSep_empty, oweR_end]
  iintro ⟨⟨#He, #Hr, HO, -, Hc2⟩, Hg, Hk, Hp, Hc, H3, Hat, Hr3, Ha0, Ha2⟩
  isplitl [HO Hr3]
  · isplitr; · iexact He
    isplitl [HO]; · iexact HO
    isplitl [Hr3]; · unfold rcvs; iexact Hr3
    iempintro
  isplitl [Ha0]; · iexact Ha0
  isplitl [Hc]; · iexact Hc
  isplitl [Ha2]; · iexact Ha2
  isplitl [Hc2]; · unfold creds; iexact Hc2
  isplitl [Hg]; · iexact Hg
  isplitl [Hk]; · iexact Hk
  isplitl [Hp]; · iexact Hp
  isplitl [H3] <;> iassumption

/-- From having waited for the cells of one array to waiting for another's. -/
theorem to_wait (a b : Fin 4) : iprop(WaitSt Pv OUT K a c 0 31 ∗ (ats b c ∗ creds b c ∗ X)) ⊢ iprop(WaitSt Pv OUT K b c 0 0 ∗ (X ∗ got Pv OUT a c)) := by
  unfold WaitSt
  rw [don_end, rem_zero, don_zero, bigSep_empty]
  have hs : iprop(ats b c ∗ creds b c) ⊢ (bigSep Finset.univ fun k => iprop(atPos ER (cell b c k) 0 ∅ 0 ∗ cred (tallyAt (cell b c k) () N)) : sProp 𝕄) := by
    unfold ats creds
    rw [join]
  iintro ⟨⟨#He, HO, -, Hg⟩, Ha, Hc, HX⟩
  isplitl [HO Ha Hc]
  · isplitr; · iexact He
    isplitl [HO]; · iexact HO
    isplitl [Ha Hc]
    · iapply hs
      isplitl [Ha] <;> iassumption
    iempintro
  isplitl [HX]; · iexact HX
  unfold got; iexact Hg

theorem to_wait' (a b : Fin 4) {Y : sProp (MT nD τ sig Unit (Elt F) ℕ UU ℕ)} : iprop(WaitSt Pv OUT K a c 0 31 ∗ ((ats b c ∗ creds b c ∗ X) ∗ Y))
    ⊢ iprop(WaitSt Pv OUT K b c 0 0 ∗ ((X ∗ Y) ∗ got Pv OUT a c)) :=
  (sep_mono_right (sep_assoc.1.trans (sep_mono_right sep_assoc.1))).trans (to_wait Pv OUT K a b)

/-! ## The end -/

/-- Everything is whole again, and every counter is back at zero. -/
def Done (I : Ins F) (c : Dev nD) : sProp 𝕄 :=
  iprop(owe c 0 ∗ fin3 I c ∗ (∃ f, wPts cc0_scratch2 c f) ∗ (∃ f, wPts cc0_scratch3 c f) ∗ wPts cc0_stg5_0 c OUT ∗ semVal (barCell c) 0
    ∗ sems 0 c ∗ sems 1 c ∗ sems 2 c ∗ sems 3 c)

theorem got_split (a : Fin 4) : got Pv OUT a c = iprop((bigSep Finset.univ fun k => atPos ER (cell a c k) 1 ∅ 0)
    ∗ bigSep Finset.univ fun k => dmaPay Pv OUT c a k) := by
  unfold got; exact bigSep_sep Finset.univ _ _

theorem close_own (a : Fin 4) : iprop(env Pv OUT K ∗ bigSep Finset.univ fun k => atPos ER (cell a c k) 1 ∅ 0) ⊢ |={Set.univ}=> sems a c := by
  have h : iprop(env Pv OUT K ∗ bigSep Finset.univ fun k => atPos ER (cell a c k) 1 ∅ 0)
      ⊢ bigSep Finset.univ fun k => iprop(cellInv ER (Rd Pv OUT) (K (cell a c k)) (cell a c k) ∗ atPos ER (cell a c k) 1 ∅ 0) := by
    rw [show bigSep Finset.univ (fun k => iprop(cellInv ER (Rd Pv OUT) (K (cell a c k)) (cell a c k) ∗ atPos ER (cell a c k) 1 ∅ 0))
      = iprop(_ ∗ _) from bigSep_sep Finset.univ _ _]
    refine sep_mono_left ?_
    exact bigSep_intro_persistent fun k _ => env_cell Pv OUT K a c k
  refine h.trans ?_
  exact Rounds.cells_close ER (Rd Pv OUT) Finset.univ (fun k => cell a c k) (fun k => K (cell a c k)) (fun _ _ => Set.mem_univ _) (fun _ _ => id)
    (fun _ => 1) (fun k _ r hr => duties_later Pv OUT _ r hr)

theorem close_bar : iprop(env Pv OUT K ∗ atPos ER (barCell c) 1 ∅ 0) ⊢ |={Set.univ}=> semVal (barCell c) 0 := by
  have h : iprop(env Pv OUT K ∗ atPos ER (barCell c) 1 ∅ 0) ⊢ iprop(cellInv ER (Rd Pv OUT) (K (barCell c)) (barCell c) ∗ atPos ER (barCell c) 1 ∅ 0) := by
    iintro ⟨#He, H⟩
    ihave Hb := (env_bar Pv OUT K c) $$ He
    icases Hb with ⟨Hb, -⟩
    isplitl [Hb] <;> iassumption
  exact h.trans (Rounds.cell_close ER (Rd Pv OUT) (Set.mem_univ _) id (fun r hr => duties_later Pv OUT _ r hr))

theorem to_done : iprop(WaitSt Pv OUT K 2 c 0 31 ∗ (((got Pv OUT 1 c ∗ oPts c c keep OUT ∗ pPts c c (Pv c) ∗ fin3 I c
      ∗ atPos ER (barCell c) 1 ∅ 0) ∗ got Pv OUT 3 c) ∗ got Pv OUT 0 c)) ⊢ |={Set.univ}=> Done OUT I c := by
  have hw : WaitSt Pv OUT K 2 c 0 31 ⊢ iprop(env Pv OUT K ∗ owe c 0 ∗ got Pv OUT 2 c) := by
    unfold WaitSt got
    rw [don_end]
    iintro ⟨H1, H2, -, H3⟩
    isplitl [H1]; · iexact H1
    isplitl [H2] <;> iassumption
  have hp : iprop(pPts c c (Pv c) ∗ bigSep Finset.univ fun k => dmaPay Pv OUT c 0 k) ⊢ wPts cc0_scratch2 c (Pv c) := by
    rw [p_blocks, dev_split c]; exact .rfl
  have hs : (bigSep Finset.univ fun k => dmaPay Pv OUT c 1 k) ⊢ wPts cc0_scratch3 c (SCR Pv c) := by
    rw [s_blocks]; exact .rfl
  have ho : iprop((oPts c c keep OUT ∗ bigSep Finset.univ fun k => dmaPay Pv OUT c 2 k) ∗ bigSep Finset.univ fun k => dmaPay Pv OUT c 3 k)
      ⊢ wPts cc0_stg5_0 c OUT := by
    rw [o_blocks, dev_split' c, own_shares]; exact .rfl
  refine (sep_mono_left hw).trans ?_
  simp only [got_split]
  iintro ⟨⟨#He, HO, Ha2, Hd2⟩, ⟨⟨⟨Ha1, Hd1⟩, Hk, Hp, H3, Hat⟩, ⟨Ha3, Hd3⟩⟩, ⟨Ha0, Hd0⟩⟩
  imod (close_own Pv OUT K 0) $$ [Ha0] with S0
  · isplitr; · iexact He
    iexact Ha0
  imod (close_own Pv OUT K 1) $$ [Ha1] with S1
  · isplitr; · iexact He
    iexact Ha1
  imod (close_own Pv OUT K 2) $$ [Ha2] with S2
  · isplitr; · iexact He
    iexact Ha2
  imod (close_own Pv OUT K 3) $$ [Ha3] with S3
  · isplitr; · iexact He
    iexact Ha3
  imod (close_bar Pv OUT K) $$ [Hat] with SB
  · isplitr; · iexact He
    iexact Hat
  imodintro
  unfold Done
  isplitl [HO]; · iexact HO
  isplitl [H3]; · iexact H3
  isplitl [Hp Hd0]
  · iexists _; iapply hp
    isplitl [Hp] <;> iassumption
  isplitl [Hd1]
  · iexists _; iapply hs; iexact Hd1
  isplitl [Hk Hd2 Hd3]
  · iapply ho
    isplitl [Hk Hd2]
    · isplitl [Hk] <;> iassumption
    iexact Hd3
  isplitl [SB]; · iexact SB
  isplitl [S0]; · iexact S0
  isplitl [S1]; · iexact S1
  isplitl [S2] <;> iassumption

end Cert.Attn

end
-- ==== Proof.Body.lean ====
/-
  The run of the kernel's body on one device.
-/
module

public import proofs.«01_k».proof.Proof.Phases
public import Idealize.ShloMosaic.Lib.Pipeline.Value
public import Idealize.ShloMosaic.Lib.Pointwise.Index

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's body on its buffers and semaphores. -/
def theBody : PG (F := F) PUnit :=
  cc0__body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

/-- Every device's partial product, and the result. -/
def parts (Is : Dev nD → Ins F) : Dev nD → PC (F := F) := fun d => part (Is d)
def OUT (Is : Dev nD → Ins F) : PC (F := F) := outOf (parts Is)

/-- What the body starts with. -/
def Start (Is : Dev nD → Ins F) (K : GSem nD τ sig → ℕ) (c : Dev nD) : sProp 𝕄 :=
  iprop(SigSt (parts Is) (OUT Is) K c 0 ∗ (inE (Is c) c ∗ headE (Is c) c ∗ partE (Is c) c ∗ barE c ∗ ownE c ∗ toks 0 1 c ∗ tail c))

theorem rfl0 : (![0, 0] : Fin 2 → ℕ) = fun _ => 0 := by
  funext i; fin_cases i <;> rfl

theorem mayWait_none (c : Dev nD) (s : SemLoc sig) : (levAts L lv : sProp 𝕄) ⊢ MayWait (c : Thread nD τ) s () 0 := by
  rw [MayWait_zero]
  iintro -
  iempintro

/-! ## The semaphores of the arrays -/

theorem sem_at {n base : ℕ} (hb : base + S31.numel ≤ n) (k : ℕ) (inb : ∀ a, ![k] a + S1.size a ≤ S31.size a) :
    (((SemArray.consecutive base S31 hb).slice (Rect.unit (s := S31) ![k] S1.size inb)).squeeze S_ squeezes_S1_S_).sem.val = base + k := by
  show base + (S31.rowMajor ((Rect.unit (s := S31) ![k] S1.size inb).emb _)).val = base + k
  generalize Shape.reshapeEquiv _ _ = z
  have hz : (z 0).val < 1 := (z 0).isLt
  rw [Shape.rowMajor_val_one]
  show base + (k + 1 * (z 0).val) = _
  omega

theorem sem4 (k : ℕ) (hk : k < 31) (inb) : ((SemArray.slice cc0_scratch4 (Rect.unit ![k] ![1] inb)).squeeze S_ squeezes_S1_S_).sem = dmaS 0 ⟨k, hk⟩ :=
  Fin.ext (sem_at _ k inb)
theorem sem5 (k : ℕ) (hk : k < 31) (inb) : ((SemArray.slice cc0_scratch5 (Rect.unit ![k] ![1] inb)).squeeze S_ squeezes_S1_S_).sem = dmaS 1 ⟨k, hk⟩ :=
  Fin.ext (sem_at _ k inb)
theorem sem6 (k : ℕ) (hk : k < 31) (inb) : ((SemArray.slice cc0_scratch6 (Rect.unit ![k] ![1] inb)).squeeze S_ squeezes_S1_S_).sem = dmaS 2 ⟨k, hk⟩ :=
  Fin.ext (sem_at _ k inb)
theorem sem7 (k : ℕ) (hk : k < 31) (inb) : ((SemArray.slice cc0_scratch7 (Rect.unit ![k] ![1] inb)).squeeze S_ squeezes_S1_S_).sem = dmaS 3 ⟨k, hk⟩ :=
  Fin.ext (sem_at _ k inb)

/-! ## What a copy is worth -/

theorem worth_s (k : ℕ) (inb : ∀ a, (![k, 0, 0] : Fin 3 → ℕ) a + S1x32x768.size a ≤ S31x32x768.size a) (h) :
    (((Memref.whole cc0_scratch3).slice (Rect.unit (s := S31x32x768) ![k, 0, 0] S1x32x768.size inb) h).squeeze S32x768 squeezes_S1x32x768_S32x768).view.dmaCredit = N := rfl
theorem worth_p (off : Fin 2 → ℕ) (inb : ∀ a, off a + S32x768.size a ≤ S1024x768.size a) (h) :
    ((Memref.whole cc0_scratch2).slice (Rect.unit (s := S1024x768) off S32x768.size inb) h).view.dmaCredit = N := rfl
theorem worth_o (off : Fin 2 → ℕ) (inb : ∀ a, off a + S32x768.size a ≤ S1024x768.size a) (h) :
    ((Memref.whole cc0_stg5_0).slice (Rect.unit (s := S1024x768) off S32x768.size inb) h).view.dmaCredit = N := rfl

section Rules

variable (Pv : Dev nD → PC (F := F)) (OUT : PC (F := F)) (K : GSem nD τ sig → ℕ)
variable {α : Type} {c : Dev nD} {R : sProp (MT nD τ sig Unit (Elt F) ℕ UU ℕ)} {Ψ : α → sProp (MT nD τ sig Unit (Elt F) ℕ UU ℕ)}

/-- The copy of the first phase, at the offset the program computes. -/
theorem Runs.send1' {i : ℕ} (hi : i < 31) {n : Dev nD} (hn : n.val = (c.val + (i + 1)) % 32)
    {off : Fin 2 → ℕ} {inb : ∀ a, off a + S32x768.size a ≤ S1024x768.size a} (hoff : off = k0_off1 c (BitVec.ofNat 32 (1 + i)))
    {s₁ s₂ : DmaSem sig} (h₁ : s₁ = dmaS 0 ⟨i, hi⟩) (h₂ : s₂ = dmaS 1 ⟨i, hi⟩)
    {hst : ∀ a, (Rect.unit (s := S1024x768) off S32x768.size inb).stride a = 1}
    {dst : Memref sig .tc .vmem S32x768 .bf16} (hd : dst = slM ⟨i, hi⟩) {hsc : dst.view.ref.isScScratch = false}
    {hsrc : ((Memref.whole cc0_scratch2).slice (Rect.unit (s := S1024x768) off S32x768.size inb) hst).view.WordExact} {hdst : dst.view.WordExact}
    {hsem : DmaTarget.Typed .vmem (.dma s₂) (.remote (Dev.tc n) dst (.dma s₁) hsc)}
    {k : PUnit → PG (F := F) α}
    (h : Runs c iprop(Snd1St Pv OUT K c (i + 1) ∗ R) (k ⟨⟩) Ψ) :
    Runs c iprop(Snd1St Pv OUT K c i ∗ R)
      (Prog.lift (.enqueueDma ((Memref.whole cc0_scratch2).slice (Rect.unit (s := S1024x768) off S32x768.size inb) hst)
        (.remote (Dev.tc n) dst (.dma s₁) hsc) (.dma s₂) hsrc hdst hsem) >>= k) Ψ :=
  Runs.send1 Pv OUT K hi hn (hoff.trans ((k0_off1_eq c ⟨i, hi⟩).trans (by rw [hn]; rfl))) h₁ h₂ hd h

/-- The load of the slot just waited for. -/
theorem Runs.ld_slot' {O : CellTallies nD τ sig Unit} {i : ℕ} (hi : i < 31) {off : Fin 3 → ℕ}
    {inb : ∀ a, off a + S1x32x768.size a ≤ S31x32x768.size a} (hoff : off = ![i, 0, 0]) {hl}
    {k : Vec F S1x32x768 .bf16 → PG (F := F) α} (h : Runs c iprop(WaitSt Pv OUT K 1 c O (i + 1) ∗ R) (k (slotV Pv c ⟨i, hi⟩)) Ψ) :
    Runs c iprop(WaitSt Pv OUT K 1 c O (i + 1) ∗ R)
      (Prog.lift (.load (Memref.whole cc0_scratch3) (Rect.unit (s := S31x32x768) off S1x32x768.size inb).toLoadRect hl) >>= k) Ψ :=
  Runs.ld_slot Pv OUT K (j := ⟨i, hi⟩) (Nat.lt_succ_self i) hoff h

end Rules

set_option maxHeartbeats 40000000 in
set_option maxRecDepth 65536 in
theorem body_run (Is : Dev nD → Ins F) (K : GSem nD τ sig → ℕ) (c : Dev nD) {Ψ : PUnit → sProp (MT nD τ sig Unit (Elt F) ℕ UU ℕ)}
    (hΨ : Done (OUT Is) (Is c) c ⊢ Ψ ⟨⟩) : Runs c (Start Is K c) (theBody (F := F)) Ψ := by
  unfold Start
  unfold theBody
  rw [cc0__body_eq_skeleton]; unfold cc0__body_skel; try dsimp only
  refine Runs.bind ?_
  rw [k0_part69_eq_skeleton]; unfold k0_part69_skel; try dsimp only
  refine Runs.bind ?_
  rw [k0_part1_eq_skeleton]; unfold k0_part1_skel; try dsimp only
  refine Runs.deviceId ?_
  iterate 8 refine Runs.signal _ _ _ (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]; try rfl) ?_
  refine Runs.next ?_; try dsimp only
  iterate 2
    refine Runs.bind ?_
    first
    | rw [k0_part2_eq_skeleton]; unfold k0_part2_skel
    | rw [k0_part3_eq_skeleton]; unfold k0_part3_skel
    try dsimp only
    iterate 10 refine Runs.signal _ _ _ (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]; try rfl) ?_
    refine Runs.next ?_
    try dsimp only
  refine Runs.bind ?_
  rw [k0_part4_eq_skeleton]; unfold k0_part4_skel; try dsimp only
  iterate 3 refine Runs.signal _ _ _ (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]; try rfl) ?_
  refine Runs.pre (to_in _ _ _) ?_
  refine Runs.ex fun _ => ?_
  refine Runs.ld_x rfl0 ?_
  refine Runs.ld_wq rfl0 ?_
  refine Runs.ld_q0 rfl0 ?_
  refine Runs.st_q rfl0 rfl ?_
  refine Runs.pre (to_heads _ _ _) ?_
  refine Runs.next ?_; try dsimp only
  refine Runs.bind ?_
  rw [k0_part5_eq_skeleton]; unfold k0_part5_skel; try dsimp only
  refine Runs.next ?_; try dsimp only
  refine Runs.bind ?_
  rw [k0_part6_eq_skeleton]; unfold k0_part6_skel; try dsimp only
  refine Runs.ld_q ?_
  refine Runs.ld_k ?_
  refine Runs.ld_v ?_
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part7_eq_skeleton]; unfold k0_part7_skel; try dsimp only
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part8_eq_skeleton]; unfold k0_part8_skel; try dsimp only
  refine Runs.ld_c fun _ => ?_
  refine Runs.st_c (by decide) rfl rfl ?_
  refine Runs.ld_q ?_
  refine Runs.ld_k ?_
  refine Runs.ld_v ?_
  refine Runs.ld_c fun _ => ?_
  refine Runs.st_c (by decide) rfl rfl ?_
  refine Runs.ld_q ?_
  refine Runs.next ?_; try dsimp only
  refine Runs.bind ?_
  rw [k0_part9_eq_skeleton]; unfold k0_part9_skel; try dsimp only
  refine Runs.ld_k ?_
  refine Runs.ld_v ?_
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part10_eq_skeleton]; unfold k0_part10_skel; try dsimp only
  refine Runs.ld_c fun _ => ?_
  refine Runs.st_c (by decide) rfl rfl ?_
  refine Runs.ld_q ?_
  refine Runs.ld_k ?_
  refine Runs.ld_v ?_
  refine Runs.ld_c fun _ => ?_
  refine Runs.st_c (by decide) rfl rfl ?_
  refine Runs.next ?_; try dsimp only
  refine Runs.bind ?_
  rw [k0_part11_eq_skeleton]; unfold k0_part11_skel; try dsimp only
  refine Runs.ld_q ?_
  refine Runs.ld_k ?_
  refine Runs.ld_v ?_
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part12_eq_skeleton]; unfold k0_part12_skel; try dsimp only
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part13_eq_skeleton]; unfold k0_part13_skel; try dsimp only
  refine Runs.ld_c fun _ => ?_
  refine Runs.st_c (by decide) rfl rfl ?_
  refine Runs.ld_q ?_
  refine Runs.ld_k ?_
  refine Runs.ld_v ?_
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part14_eq_skeleton]; unfold k0_part14_skel; try dsimp only
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part15_eq_skeleton]; unfold k0_part15_skel; try dsimp only
  refine Runs.ld_c fun _ => ?_
  refine Runs.st_c (by decide) rfl rfl ?_
  refine Runs.ld_q ?_
  refine Runs.ld_k ?_
  refine Runs.ld_v ?_
  refine Runs.ld_c fun _ => ?_
  refine Runs.st_c (by decide) rfl rfl ?_
  refine Runs.ld_q ?_
  refine Runs.next ?_; try dsimp only
  refine Runs.bind ?_
  rw [k0_part16_eq_skeleton]; unfold k0_part16_skel; try dsimp only
  refine Runs.ld_k ?_
  refine Runs.ld_v ?_
  refine Runs.ld_c fun _ => ?_
  refine Runs.st_c (by decide) rfl rfl ?_
  refine Runs.ld_q ?_
  refine Runs.ld_k ?_
  refine Runs.ld_v ?_
  refine Runs.next ?_; try dsimp only
  refine Runs.bind ?_
  rw [k0_part17_eq_skeleton]; unfold k0_part17_skel; try dsimp only
  refine Runs.ld_c fun _ => ?_
  refine Runs.st_c (by decide) rfl rfl ?_
  refine Runs.pre (to_part _ _ _) ?_
  refine Runs.ex fun _ => ?_
  refine Runs.ld_wo rfl0 ?_
  refine Runs.ld_ctx rfl0 ?_
  refine Runs.ld_p0 rfl0 ?_
  refine Runs.st_p rfl0 rfl ?_
  refine Runs.pre (to_bar _ _ _) ?_
  refine Runs.barrier _ _ _ ?_
  refine Runs.pre (to_send1 (parts Is) _ _) ?_
  refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
  refine Runs.next ?_; try dsimp only
  iterate 1
    refine Runs.bind ?_
    first
    | rw [k0_part18_eq_skeleton]; unfold k0_part18_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part19_eq_skeleton]; unfold k0_part19_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part20_eq_skeleton]; unfold k0_part20_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part21_eq_skeleton]; unfold k0_part21_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part22_eq_skeleton]; unfold k0_part22_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part23_eq_skeleton]; unfold k0_part23_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part24_eq_skeleton]; unfold k0_part24_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part25_eq_skeleton]; unfold k0_part25_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part26_eq_skeleton]; unfold k0_part26_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  iterate 1
    refine Runs.bind ?_
    first
    | rw [k0_part27_eq_skeleton]; unfold k0_part27_skel
    try dsimp only
    iterate 3 refine Runs.send1' _ _ _ (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; try rfl) rfl (sem4 _ _ _) (sem5 _ _ _) rfl ?_
    refine Runs.next ?_
    try dsimp only
  refine Runs.bind ?_
  rw [k0_part28_eq_skeleton]; unfold k0_part28_skel; try dsimp only
  refine Runs.pre (to_own _ _ _) ?_
  refine Runs.ld_own _ (k0_off2_eq _) ?_
  refine Runs.pre (to_recv1 _ _ _) ?_
  refine Runs.wait _ _ _ (by decide) (mayWait_recv _ _ 0) (sem5 _ _ _) (worth_s _ _ _) ?_
  refine Runs.ld_slot' _ _ _ (by decide) rfl ?_
  refine Runs.wait _ _ _ (by decide) (mayWait_recv _ _ 0) (sem5 _ _ _) (worth_s _ _ _) ?_
  refine Runs.ld_slot' _ _ _ (by decide) rfl ?_
  refine Runs.wait _ _ _ (by decide) (mayWait_recv _ _ 0) (sem5 _ _ _) (worth_s _ _ _) ?_
  refine Runs.ld_slot' _ _ _ (by decide) rfl ?_
  refine Runs.next ?_; try dsimp only
  iterate 9
    refine Runs.bind ?_
    first
    | rw [k0_part29_eq_skeleton]; unfold k0_part29_skel
    | rw [k0_part30_eq_skeleton]; unfold k0_part30_skel
    | rw [k0_part31_eq_skeleton]; unfold k0_part31_skel
    | rw [k0_part32_eq_skeleton]; unfold k0_part32_skel
    | rw [k0_part33_eq_skeleton]; unfold k0_part33_skel
    | rw [k0_part34_eq_skeleton]; unfold k0_part34_skel
    | rw [k0_part35_eq_skeleton]; unfold k0_part35_skel
    | rw [k0_part36_eq_skeleton]; unfold k0_part36_skel
    | rw [k0_part37_eq_skeleton]; unfold k0_part37_skel
    try dsimp only
    iterate 3 (refine Runs.wait _ _ _ (by decide) (mayWait_recv _ _ 0) (sem5 _ _ _) (worth_s _ _ _) ?_; refine Runs.ld_slot' _ _ _ (by decide) rfl ?_)
    refine Runs.next ?_
    try dsimp only
  refine Runs.bind ?_
  rw [k0_part38_eq_skeleton]; unfold k0_part38_skel; try dsimp only
  refine Runs.wait _ _ _ (by decide) (mayWait_recv _ _ 0) (sem5 _ _ _) (worth_s _ _ _) ?_
  refine Runs.ld_slot' _ _ _ (by decide) rfl ?_
  refine Runs.pre (to_out _ _ _) ?_
  refine Runs.ld_o (k0_off2_eq _) fun _ => ?_
  refine Runs.st_o _ (k0_off2_eq _) rfl ?_
  refine Runs.pre (to_send2 _ _ _) ?_
  refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
  refine Runs.next ?_; try dsimp only
  iterate 2
    refine Runs.bind ?_
    first
    | rw [k0_part39_eq_skeleton]; unfold k0_part39_skel
    | rw [k0_part40_eq_skeleton]; unfold k0_part40_skel
    try dsimp only
    iterate 3 refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
    refine Runs.next ?_
    try dsimp only
  refine Runs.bind ?_
  rw [k0_part41_eq_skeleton]; unfold k0_part41_skel; try dsimp only
  iterate 4 refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
  refine Runs.next ?_; try dsimp only
  iterate 5
    refine Runs.bind ?_
    first
    | rw [k0_part42_eq_skeleton]; unfold k0_part42_skel
    | rw [k0_part43_eq_skeleton]; unfold k0_part43_skel
    | rw [k0_part44_eq_skeleton]; unfold k0_part44_skel
    | rw [k0_part45_eq_skeleton]; unfold k0_part45_skel
    | rw [k0_part46_eq_skeleton]; unfold k0_part46_skel
    try dsimp only
    iterate 3 refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
    refine Runs.next ?_
    try dsimp only
  refine Runs.bind ?_
  rw [k0_part47_eq_skeleton]; unfold k0_part47_skel; try dsimp only
  iterate 4 refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
  refine Runs.next ?_; try dsimp only
  refine Runs.bind ?_
  rw [k0_part48_eq_skeleton]; unfold k0_part48_skel; try dsimp only
  refine Runs.send2 _ _ _ (by decide) (by simp only [k0_dev63_eq, k0_dev64_eq, k0_dev65_eq, k0_dev66_eq, k0_dev67_eq, k0_dev68_eq, k0_dev69_eq, k0_dev70_eq, k0_dev71_eq, k0_dev72_eq, k0_dev73_eq, k0_dev74_eq, k0_dev75_eq, k0_dev76_eq, k0_dev77_eq, k0_dev78_eq, k0_dev79_eq, k0_dev80_eq, k0_dev81_eq, k0_dev82_eq, k0_dev83_eq, k0_dev84_eq, k0_dev85_eq, k0_dev86_eq, k0_dev87_eq, k0_dev88_eq, k0_dev89_eq, k0_dev90_eq, k0_dev91_eq, k0_dev92_eq, k0_dev93_eq]; try rfl) (k0_off3_eq _) (sem6 _ _ _) (sem7 _ _ _) ?_
  refine Runs.pre (to_recv2 _ _ _) ?_
  iterate 2 refine Runs.wait _ _ _ (by decide) (mayWait_none _ _) (sem7 _ _ _) (worth_o _ _ _) ?_
  refine Runs.next ?_; try dsimp only
  iterate 2
    refine Runs.bind ?_
    first
    | rw [k0_part49_eq_skeleton]; unfold k0_part49_skel
    | rw [k0_part50_eq_skeleton]; unfold k0_part50_skel
    try dsimp only
    iterate 3 refine Runs.wait _ _ _ (by decide) (mayWait_none _ _) (sem7 _ _ _) (worth_o _ _ _) ?_
    refine Runs.next ?_
    try dsimp only
  refine Runs.bind ?_
  rw [k0_part51_eq_skeleton]; unfold k0_part51_skel; try dsimp only
  iterate 4 refine Runs.wait _ _ _ (by decide) (mayWait_none _ _) (sem7 _ _ _) (worth_o _ _ _) ?_
  refine Runs.next ?_; try dsimp only
  iterate 2
    refine Runs.bind ?_
    first
    | rw [k0_part52_eq_skeleton]; unfold k0_part52_skel
    | rw [k0_part53_eq_skeleton]; unfold k0_part53_skel
    try dsimp only
    iterate 3 refine Runs.wait _ _ _ (by decide) (mayWait_none _ _) (sem7 _ _ _) (worth_o _ _ _) ?_
    refine Runs.next ?_
    try dsimp only
  refine Runs.bind ?_
  rw [k0_part54_eq_skeleton]; unfold k0_part54_skel; try dsimp only
  iterate 4 refine Runs.wait _ _ _ (by decide) (mayWait_none _ _) (sem7 _ _ _) (worth_o _ _ _) ?_
  refine Runs.next ?_; try dsimp only
  iterate 2
    refine Runs.bind ?_
    first
    | rw [k0_part55_eq_skeleton]; unfold k0_part55_skel
    | rw [k0_part56_eq_skeleton]; unfold k0_part56_skel
    try dsimp only
    iterate 3 refine Runs.wait _ _ _ (by decide) (mayWait_none _ _) (sem7 _ _ _) (worth_o _ _ _) ?_
    refine Runs.next ?_
    try dsimp only
  refine Runs.bind ?_
  rw [k0_part57_eq_skeleton]; unfold k0_part57_skel; try dsimp only
  iterate 3 refine Runs.wait _ _ _ (by decide) (mayWait_none _ _) (sem7 _ _ _) (worth_o _ _ _) ?_
  refine Runs.pre (to_wait _ _ _ 3 0) ?_
  refine Runs.wait _ _ _ (by decide) (mayWait_none _ _) (sem4 _ _ _) (worth_p _ _ _) ?_
  refine Runs.next ?_; try dsimp only
  iterate 2
    refine Runs.bind ?_
    first
    | rw [k0_part58_eq_skeleton]; unfold k0_part58_skel
    | rw [k0_part59_eq_skeleton]; unfold k0_part59_skel
    try dsimp only
    iterate 5 refine Runs.wait _ _ _ (by decide) (mayWait_none _ _) (sem4 _ _ _) (worth_p _ _ _) ?_
    refine Runs.next ?_
    try dsimp only
  refine Runs.bind ?_
  rw [k0_part60_eq_skeleton]; unfold k0_part60_skel; try dsimp only
  iterate 4 refine Runs.wait _ _ _ (by decide) (mayWait_none _ _) (sem4 _ _ _) (worth_p _ _ _) ?_
  refine Runs.next ?_; try dsimp only
  refine Runs.next ?_; try dsimp only
  refine Runs.bind ?_
  rw [k0_part61_eq_skeleton]; unfold k0_part61_skel; try dsimp only
  iterate 5 refine Runs.wait _ _ _ (by decide) (mayWait_none _ _) (sem4 _ _ _) (worth_p _ _ _) ?_
  refine Runs.next ?_; try dsimp only
  refine Runs.bind ?_
  rw [k0_part62_eq_skeleton]; unfold k0_part62_skel; try dsimp only
  iterate 4 refine Runs.wait _ _ _ (by decide) (mayWait_none _ _) (sem4 _ _ _) (worth_p _ _ _) ?_
  refine Runs.next ?_; try dsimp only
  refine Runs.bind ?_
  rw [k0_part63_eq_skeleton]; unfold k0_part63_skel; try dsimp only
  iterate 5 refine Runs.wait _ _ _ (by decide) (mayWait_none _ _) (sem4 _ _ _) (worth_p _ _ _) ?_
  refine Runs.next ?_; try dsimp only
  refine Runs.bind ?_
  rw [k0_part64_eq_skeleton]; unfold k0_part64_skel; try dsimp only
  iterate 2 refine Runs.wait _ _ _ (by decide) (mayWait_none _ _) (sem4 _ _ _) (worth_p _ _ _) ?_
  refine Runs.pre (to_wait' _ _ _ 0 2) ?_
  iterate 4 refine Runs.wait _ _ _ (by decide) (mayWait_none _ _) (sem6 _ _ _) (worth_o _ _ _) ?_
  refine Runs.next ?_; try dsimp only
  iterate 4
    refine Runs.bind ?_
    first
    | rw [k0_part65_eq_skeleton]; unfold k0_part65_skel
    | rw [k0_part66_eq_skeleton]; unfold k0_part66_skel
    | rw [k0_part67_eq_skeleton]; unfold k0_part67_skel
    | rw [k0_part68_eq_skeleton]; unfold k0_part68_skel
    try dsimp only
    iterate 6 refine Runs.wait _ _ _ (by decide) (mayWait_none _ _) (sem6 _ _ _) (worth_o _ _ _) ?_
    refine Runs.next ?_
    try dsimp only
  iterate 3 refine Runs.wait _ _ _ (by decide) (mayWait_none _ _) (sem6 _ _ _) (worth_o _ _ _) ?_
  exact Runs.upd ((to_done _ _ _).trans (fupd_mono hΨ)) (Runs.pure .rfl)

end Cert.Attn

end
-- ==== Proof.Region.lean ====
/-
  The region of the kernel's call: the six windows, each a whole array; what the body's invariant holds before and after its one point; and
  the record of the region.
-/
module

public import proofs.«01_k».proof.Proof.Body
public import proofs.«01_k».proof.Proof.Gen.Kernel.Regions
public import Idealize.ShloMosaic.Lib.Pipeline.RegionTalk
public import Idealize.ShloMosaic.Lib.Pipeline.FrameBody
public import Idealize.ShloMosaic.Lib.Pipeline.ValueKit
public import Idealize.ShloMosaic.Lib.Rounds.Family

@[expose] public section

noncomputable section

namespace Cert.Attn

open Cert.Kernel Cert.Kernel.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F))

/-- The operands each device gives the kernel. -/
def Is (c : Dev nD) : Ins F := ⟨V c main_v17, V c main_arg1, V c main_v10, V c main_v16, V c main_arg4⟩

/-- The kernel's result, the same on every device. -/
def res : PC (F := F) := OUT (Is V)

/-- The contents the region leaves. -/
def outs : Outs (F := F) := fun _ r c => if h : r = main_v18 then h ▸ (res V : Buf (Elt F) ((c : Thread nD τ).loc main_v18)) else V c r

theorem outs_18 (c : Dev nD) : outs V 2 main_v18 c = res V := by unfold outs; rw [dif_pos rfl]

/-! ## The body's invariant -/

abbrev osem : Fin 4 × Fin 31 → SemLoc sig := fun p => .dma (dmaS p.1 p.2)
theorem ownSemFacts : Pipeline.OwnSemFacts spec0 osem where
  isScoped := by decide
  inj p q h := by
    have h := SemLoc.dma.inj h
    exact Prod.ext (dmaS_inj h).1 (dmaS_inj h).2
  disj p w s h := by
    have h := congrArg Fin.val (SemLoc.dma.inj h)
    have hw : ∀ w s, ((spec0 w).sem s).val < 6 := by decide
    have := hw w s
    dsimp only [dmaS] at h
    omega

/-- The invariants and the levels, the names of the cells not chosen. -/
abbrev envK (K : GSem nD τ sig → ℕ) : sProp 𝕄 := env (parts (Is V)) (OUT (Is V)) K

/-- What the launch leaves each device: every cell's invariant, its own positions and rights to open, the tokens of the duties it pays,
    the credit it waits with. -/
def Tk (c : Dev nD) : sProp 𝕄 :=
  iprop((∃ K, envK V K ∗ bigSep Finset.univ fun p : Fin 4 × Fin 31 => openTok ER (cell p.1 c p.2)) ∗ barE c
    ∗ (bigSep Finset.univ fun k => dutyTok ER (barCell (nx c k)) 0 (rev k)) ∗ toks 0 1 c ∗ toks 2 3 c ∗ creds 1 c ∗ creds 3 c)

/-- The same with the device's transfer cells opened. -/
def Xk (c : Dev nD) : sProp 𝕄 :=
  iprop((∃ K, envK V K) ∗ rch c ∗ barE c
    ∗ (bigSep Finset.univ fun k => dutyTok ER (barCell (nx c k)) 0 (rev k)) ∗ toks 0 1 c ∗ tail c)

def Yk (c : Dev nD) : sProp 𝕄 := semVal (barCell c) 0

def scr (c : Dev nD) : sProp 𝕄 :=
  iprop((∃ f, wPts cc0_scratch0 c f) ∗ (∃ f, wPts cc0_scratch1 c f) ∗ (∃ f, wPts cc0_scratch2 c f) ∗ ∃ f, wPts cc0_scratch3 c f)

def Φ₀ (c : Dev nD) : sProp 𝕄 := iprop(Xk V c ∗ scr c ∗ ∃ r, prngReg c r)
def Φ₁ (c : Dev nD) : sProp 𝕄 := iprop((semVal (barCell c) 0 ∗ sems 0 c ∗ sems 1 c ∗ sems 2 c ∗ sems 3 c) ∗ scr c ∗ ∃ r, prngReg c r)

def pdats (_ : Fin 1) (c : Dev nD) : Dat τ (Elt F) Unit ℕ UU ℕ cfg0 c where
  A w := V c (Proc.devRef .tc (Pipeline.arrRef spec0 w))
  after w _ := match w with
    | ⟨0, _⟩ => (Is V c).x
    | ⟨1, _⟩ => (Is V c).wq
    | ⟨2, _⟩ => (Is V c).k
    | ⟨3, _⟩ => (Is V c).v
    | ⟨4, _⟩ => (Is V c).wo
    | ⟨5, _⟩ => res V
  Φ t := match t with
    | ⟨0, _⟩ => Φ₀ V c
    | ⟨_ + 1, _⟩ => Φ₁ c
  q _ := fullShare
  owed t := match t with
    | ⟨0, _⟩ => O₀ c
    | ⟨_ + 1, _⟩ => 0

theorem share_eq (c : Dev nD) (w : Fin cfg0.W) : (pdats V 0 c).share w = fullShare := by unfold Dat.share; split <;> rfl

/-! ## What the windows hold -/

theorem idx_0 (a) : win0_0.index t0_0 a = 0 := rfl
theorem idx_1 (a) : win0_1.index t0_0 a = 0 := rfl
theorem idx_2 (a) : win0_2.index t0_0 a = 0 := rfl
theorem idx_3 (a) : win0_3.index t0_0 a = 0 := rfl
theorem idx_4 (a) : win0_4.index t0_0 a = 0 := rfl
theorem idx_5 (a) : win0_5.index t0_0 a = 0 := rfl

theorem before_0 (c : Dev nD) (d) : (pdats V 0 c).before (0 : Fin 6) t0_0 d = (Is V c).x := by
  unfold Dat.before
  rw [if_pos (fetch0_0 t0_0)]
  funext y
  show V c main_v17 (((cfg0.win 0).blk t0_0).view.emb y) = V c main_v17 y
  congr 1
  blk_ext [idx_0]
theorem before_1 (c : Dev nD) (d) : (pdats V 0 c).before (1 : Fin 6) t0_0 d = (Is V c).wq := by
  unfold Dat.before
  rw [if_pos (fetch0_1 t0_0)]
  funext y
  show V c main_arg1 (((cfg0.win 1).blk t0_0).view.emb y) = V c main_arg1 y
  congr 1
  blk_ext [idx_1]
theorem before_2 (c : Dev nD) (d) : (pdats V 0 c).before (2 : Fin 6) t0_0 d = (Is V c).k := by
  unfold Dat.before
  rw [if_pos (fetch0_2 t0_0)]
  funext y
  show V c main_v10 (((cfg0.win 2).blk t0_0).view.emb y) = V c main_v10 y
  congr 1
  blk_ext [idx_2]
theorem before_3 (c : Dev nD) (d) : (pdats V 0 c).before (3 : Fin 6) t0_0 d = (Is V c).v := by
  unfold Dat.before
  rw [if_pos (fetch0_3 t0_0)]
  funext y
  show V c main_v16 (((cfg0.win 3).blk t0_0).view.emb y) = V c main_v16 y
  congr 1
  blk_ext [idx_3]
theorem before_4 (c : Dev nD) (d) : (pdats V 0 c).before (4 : Fin 6) t0_0 d = (Is V c).wo := by
  unfold Dat.before
  rw [if_pos (fetch0_4 t0_0)]
  funext y
  show V c main_arg4 (((cfg0.win 4).blk t0_0).view.emb y) = V c main_arg4 y
  congr 1
  blk_ext [idx_4]

/-- The result's array afterwards. -/
theorem arrAt_5 (c : Dev nD) : (pdats V 0 c).arrAt (5 : Fin 6) cfg0.N = res V := by
  refine (pdats V 0 c).arrAt_eq_of_after_last (5 : Fin 6) t0_0 (by decide +kernel) _ fun j => ?_
  show res V j = res V j
  rfl

/-! ## The body at its point -/

/-- What the body starts with, of the invariant and the staging buffers. -/
theorem start_of (c : Dev nD) (K : GSem nD τ sig → ℕ) :
    iprop((envK V K ∗ rch c ∗ barE c ∗ (bigSep Finset.univ fun k => dutyTok ER (barCell (nx c k)) 0 (rev k)) ∗ toks 0 1 c ∗ tail c)
      ∗ scr c ∗ owe c (O₀ c) ∗ wPts cc0_stg0_0 c (Is V c).x ∗ wPts cc0_stg1_0 c (Is V c).wq ∗ wPts cc0_stg2_0 c (Is V c).k
      ∗ wPts cc0_stg3_0 c (Is V c).v ∗ wPts cc0_stg4_0 c (Is V c).wo ∗ ∃ d, wPts cc0_stg5_0 c d) ⊢ Start (Is V) K c := by
  unfold scr Start SigSt inE headE partE ownE
  have hs (f : SC (F := F)) : (wPts cc0_scratch3 c f : sProp 𝕄) ⊢ bigSep Finset.univ fun k => iprop(∃ f, sPts c (rev k) f) := by
    rw [s_blocks, rev_all]
    refine bigSep_mono fun k _ => ?_
    show (_ : sProp 𝕄) ⊢ (_ : sProp 𝕄)
    iintro H; iexists f; iexact H
  have ho (f : PC (F := F)) : (wPts cc0_stg5_0 c f : sProp 𝕄) ⊢ iprop((∃ f, oPts c c fullShare f) ∗ bigSep Finset.univ fun k => iprop(∃ f, oPts c (nx c k) fullShare f)) := by
    rw [o_blocks, dev_split c]
    refine BI.sep_mono ?_ (bigSep_mono fun k _ => ?_)
    · show (_ : sProp 𝕄) ⊢ (_ : sProp 𝕄)
      iintro H; iexists f; iexact H
    · show (_ : sProp 𝕄) ⊢ (_ : sProp 𝕄)
      iintro H; iexists f; iexact H
  have hr : iprop((bigSep Finset.univ fun k => dutyTok ER (barCell (nx c k)) 0 (rev k)) ∗ (bigSep Finset.univ fun k => iprop(∃ f, sPts c (rev k) f))
      ∗ bigSep Finset.univ fun k => iprop(∃ f, oPts c (nx c k) fullShare f)) ⊢ (bigSep (rem 0) (sigRes c) : sProp 𝕄) := by
    rw [join, join, rem_zero]
    exact bigSep_mono fun k _ => by unfold sigRes; exact BI.Entails.refl _
  iintro ⟨⟨He, Hr, Hb, Hd, Ht, Hl⟩, ⟨Hq, Hc, Hp, ⟨%fs, Hs⟩⟩, HO, H0, H1, H2, H3, H4, ⟨%d, H5⟩⟩
  ihave Hs := (hs fs) $$ Hs
  ihave H5 := (ho d) $$ H5
  icases H5 with ⟨Hown, Hoth⟩
  isplitl [He Hr HO Hd Hs Hoth]
  · isplitl [He]; · iexact He
    isplitl [Hr]; · iexact Hr
    isplitl [HO]; · iexact HO
    iapply hr
    isplitl [Hd]; · iexact Hd
    isplitl [Hs] <;> iassumption
  isplitl [H0 H1 Hq]
  · isplitl [H0]; · iexact H0
    isplitl [H1] <;> iassumption
  isplitl [H2 H3 Hc]
  · isplitl [H2]; · iexact H2
    isplitl [H3] <;> iassumption
  isplitl [H4 Hp]; · isplitl [H4] <;> iassumption
  isplitl [Hb]; · iexact Hb
  isplitl [Hown]; · iexact Hown
  isplitl [Ht] <;> iassumption

/-- What the body leaves, as the invariant and the staging buffers. -/
theorem of_done (c : Dev nD) : Done (OUT (Is V)) (Is V c) c
    ⊢ iprop((semVal (barCell c) 0 ∗ sems 0 c ∗ sems 1 c ∗ sems 2 c ∗ sems 3 c) ∗ scr c ∗ owe c 0 ∗ wPts cc0_stg0_0 c (Is V c).x ∗ wPts cc0_stg1_0 c (Is V c).wq
      ∗ wPts cc0_stg2_0 c (Is V c).k ∗ wPts cc0_stg3_0 c (Is V c).v ∗ wPts cc0_stg4_0 c (Is V c).wo ∗ wPts cc0_stg5_0 c (res V)) := by
  unfold Done fin3 fin2 fin1 scr
  iintro ⟨HO, ⟨⟨⟨H0, H1⟩, H2, H3, Hq⟩, H4, Hc⟩, Hp, Hs, H5, Hb, S0, S1, S2, S3⟩
  isplitl [Hb S0 S1 S2 S3]
  · isplitl [Hb]; · iexact Hb
    isplitl [S0]; · iexact S0
    isplitl [S1]; · iexact S1
    isplitl [S2] <;> iassumption
  isplitl [Hq Hc Hp Hs]
  · isplitl [Hq]; · iexact Hq
    isplitl [Hc]; · iexact Hc
    isplitl [Hp] <;> iassumption
  isplitl [HO]; · iexact HO
  isplitl [H0]; · iexact H0
  isplitl [H1]; · iexact H1
  isplitl [H2]; · iexact H2
  isplitl [H3]; · iexact H3
  isplitl [H4]; · iexact H4
  iexact H5

theorem owe_intro (c : Dev nD) (t : Fin (cfg0.N + 1)) (O : CellTallies nD τ sig Unit) (h0 : (pdats V 0 c).owed t = O) :
    (owe c O : sProp 𝕄) ⊢ ((pdats V 0 c).owesAt () t : sProp 𝕄) := by
  unfold owe Dat.owesAt Pipeline.owesWithin Dat.bound; rw [h0]
  iintro ⟨%W, HO⟩; iexists W; isplitr; · ipureintro; exact fun _ _ => Or.inl trivial
  iexact HO
theorem owe_elim (c : Dev nD) (t : Fin (cfg0.N + 1)) (O : CellTallies nD τ sig Unit) (h0 : (pdats V 0 c).owed t = O) :
    ((pdats V 0 c).owesAt () t : sProp 𝕄) ⊢ (owe c O : sProp 𝕄) := by
  unfold owe Dat.owesAt Pipeline.owesWithin; rw [h0]
  iintro ⟨%W, -, HO⟩; iexists W; iexact HO

def bodyPre (c : Dev nD) : sProp 𝕄 :=
  iprop(Φ₀ V c ∗ (pdats V 0 c).owesAt () t0_0.castSucc
    ∗ (∃ d, owns (c : Thread nD τ) (Memref.whole cc0_stg0_0) fullShare ((pdats V 0 c).before (0 : Fin 6) t0_0 d))
    ∗ (∃ d, owns (c : Thread nD τ) (Memref.whole cc0_stg1_0) fullShare ((pdats V 0 c).before (1 : Fin 6) t0_0 d))
    ∗ (∃ d, owns (c : Thread nD τ) (Memref.whole cc0_stg2_0) fullShare ((pdats V 0 c).before (2 : Fin 6) t0_0 d))
    ∗ (∃ d, owns (c : Thread nD τ) (Memref.whole cc0_stg3_0) fullShare ((pdats V 0 c).before (3 : Fin 6) t0_0 d))
    ∗ (∃ d, owns (c : Thread nD τ) (Memref.whole cc0_stg4_0) fullShare ((pdats V 0 c).before (4 : Fin 6) t0_0 d))
    ∗ (∃ d, owns (c : Thread nD τ) (Memref.whole cc0_stg5_0) fullShare ((pdats V 0 c).before (5 : Fin 6) t0_0 d)))

def bodyPost (c : Dev nD) : sProp 𝕄 :=
  iprop(Φ₁ c ∗ (pdats V 0 c).owesAt () t0_0.succ
    ∗ owns (c : Thread nD τ) (Memref.whole cc0_stg0_0) fullShare (Is V c).x
    ∗ owns (c : Thread nD τ) (Memref.whole cc0_stg1_0) fullShare (Is V c).wq
    ∗ owns (c : Thread nD τ) (Memref.whole cc0_stg2_0) fullShare (Is V c).k
    ∗ owns (c : Thread nD τ) (Memref.whole cc0_stg3_0) fullShare (Is V c).v
    ∗ owns (c : Thread nD τ) (Memref.whole cc0_stg4_0) fullShare (Is V c).wo
    ∗ owns (c : Thread nD τ) (Memref.whole cc0_stg5_0) fullShare (res V))

theorem body_pre (c : Dev nD) : bodyPre V c ⊢ iprop((∃ K, Start (Is V) K c) ∗ ∃ r, prngReg c r) := by
  unfold bodyPre Φ₀ Xk
  simp only [before_0, before_1, before_2, before_3, before_4]
  iintro ⟨⟨⟨⟨%K, He⟩, Hx⟩, Hs, Hp⟩, HO, ⟨%d0, H0⟩, ⟨%d1, H1⟩, ⟨%d2, H2⟩, ⟨%d3, H3⟩, ⟨%d4, H4⟩, ⟨%d5, H5⟩⟩
  ihave HO := (owe_elim V c t0_0.castSucc (O₀ c) rfl) $$ HO
  isplitr [Hp]
  · iexists K
    iapply (start_of V c K)
    isplitl [He Hx]; · isplitl [He] <;> iassumption
    isplitl [Hs]; · iexact Hs
    isplitl [HO]; · iexact HO
    isplitl [H0]; · iapply (Entails.of_eq (owns_whole (c : Thread nD τ) cc0_stg0_0 fullShare _)); iexact H0
    isplitl [H1]; · iapply (Entails.of_eq (owns_whole (c : Thread nD τ) cc0_stg1_0 fullShare _)); iexact H1
    isplitl [H2]; · iapply (Entails.of_eq (owns_whole (c : Thread nD τ) cc0_stg2_0 fullShare _)); iexact H2
    isplitl [H3]; · iapply (Entails.of_eq (owns_whole (c : Thread nD τ) cc0_stg3_0 fullShare _)); iexact H3
    isplitl [H4]; · iapply (Entails.of_eq (owns_whole (c : Thread nD τ) cc0_stg4_0 fullShare _)); iexact H4
    iexists _
    iapply (Entails.of_eq (owns_whole (c : Thread nD τ) cc0_stg5_0 fullShare _)); iexact H5
  iexact Hp

theorem body_post (c : Dev nD) : iprop(Done (OUT (Is V)) (Is V c) c ∗ ∃ r, prngReg c r) ⊢ bodyPost V c := by
  unfold bodyPost Φ₁
  iintro ⟨H, Hp⟩
  ihave H := (of_done V c) $$ H
  icases H with ⟨Hb, Hs, HO, H0, H1, H2, H3, H4, H5⟩
  isplitl [Hb Hs Hp]
  · isplitl [Hb]; · iexact Hb
    isplitl [Hs] <;> iassumption
  isplitl [HO]; · iapply (owe_intro V c t0_0.succ 0 rfl); iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  isplitl [H4]; · iapply (Entails.of_eq (owns_whole (c : Thread nD τ) cc0_stg4_0 fullShare _).symm); iexact H4
  iapply (Entails.of_eq (owns_whole (c : Thread nD τ) cc0_stg5_0 fullShare _).symm); iexact H5

theorem body_runs (c : Dev nD) : bodyPre V c ⊢ wp frame (wpE (defs₀ (F := F)) 𝒱₀ (c : Thread nD τ) none) Set.univ (theBody (F := F)) fun _ => bodyPost V c :=
  (body_pre V c).trans (Runs.ex fun K =>
    ((BI.sep_mono (body_run (Is V) K c (Ψ := fun _ => Done (OUT (Is V)) (Is V c) c) (BI.Entails.refl _)) (BI.Entails.refl _)).trans
      (wp_frame_r frame _ _)).trans (wp_mono _ _ _ fun _ => body_post V c))

set_option maxRecDepth 40000 in
theorem body_obl (c : Dev nD) : BodyObligation (pdats V 0 c) (defs₀ (F := F)) 𝒱₀ () Set.univ := fun t => by
  rw [fin_N0 t]
  rw [bigSep_W0, bigSep_W0]
  dsimp only
  show bodyPre V c ⊢ wp frame (wpE (defs₀ (F := F)) 𝒱₀ (c : Thread nD τ) none) Set.univ (theBody (F := F)) fun _ => bodyPost V c
  exact body_runs V c

/-! ## Entering and leaving the region -/

theorem ownSems0_eq (c : Dev nD) : (Pipeline.ownSems0 osem c : sProp 𝕄) = bigSep Finset.univ fun p : Fin 4 × Fin 31 => semVal (cell p.1 c p.2) 0 := rfl

/-- Positions or counters over the four arrays, array by array. -/
theorem by_array (Φ : Fin 4 × Fin 31 → sProp (MT nD τ sig Unit (Elt F) ℕ UU ℕ)) :
    bigSep Finset.univ Φ = iprop((bigSep Finset.univ fun k => Φ (0, k)) ∗ (bigSep Finset.univ fun k => Φ (1, k))
      ∗ (bigSep Finset.univ fun k => Φ (2, k)) ∗ bigSep Finset.univ fun k => Φ (3, k)) := by
  rw [bigSep_univ_prod, bigSep_univ_eq_bigSepL [(0 : Fin 4), 1, 2, 3] (by decide) (by decide)]
  rfl

theorem rcvs_eq (a : Fin 4) (c : Dev nD) : (rcvs a c : sProp 𝕄) = iprop(ats a c ∗ creds a c) := by
  unfold rcvs ats creds; rw [join]

theorem hopen (c : Dev nD) : iprop(Tk V c ∗ Pipeline.ownSems0 osem c ∗ levAts L lv) ⊢ (|={Set.univ}=> Xk V c : sProp 𝕄) := by
  rw [ownSems0_eq]
  unfold Tk Xk tail
  rw [rcvs_eq, rcvs_eq]
  have hb (K : GSem nD τ sig → ℕ) : iprop(envK V K ∗ bigSep Finset.univ fun p : Fin 4 × Fin 31 => openTok ER (cell p.1 c p.2))
      ⊢ (bigSep Finset.univ fun p : Fin 4 × Fin 31 => iprop(cellInv ER (Rd (parts (Is V)) (OUT (Is V))) (K (cell p.1 c p.2)) (cell p.1 c p.2) ∗ openTok ER (cell p.1 c p.2)) : sProp 𝕄) := by
    refine bigSep_with_persistent (R := envK V K) fun p _ => ?_
    iintro ⟨He, Ho⟩
    isplitl [He]
    · iapply (env_cell (parts (Is V)) (OUT (Is V)) K p.1 c p.2); iexact He
    · iexact Ho
  iintro ⟨⟨⟨%K, #He, Ho⟩, Hb, Hd, Ht, Ht2, Hc1, Hc3⟩, Hs, -⟩
  ihave Hi := (hb K) $$ [Ho]
  · isplitr; · iexact He
    iexact Ho
  imod (Rounds.cells_open ER (Rd (parts (Is V)) (OUT (Is V))) Finset.univ (fun p : Fin 4 × Fin 31 => cell p.1 c p.2) (fun p => K (cell p.1 c p.2))
    (fun _ _ => Set.mem_univ _)) $$ [Hi Hs] with Hat
  · isplitl [Hi] <;> iassumption
  ihave Hat := (Entails.of_eq (join (fun p : Fin 4 × Fin 31 => atPos ER (cell p.1 c p.2) 0 ∅ 0) (fun p => reached ER (cell p.1 c p.2) 0)).symm) $$ Hat
  icases Hat with ⟨Hat, Hr⟩
  ihave Hat := (Entails.of_eq (by_array (fun p : Fin 4 × Fin 31 => atPos ER (cell p.1 c p.2) 0 ∅ 0))) $$ Hat
  icases Hat with ⟨Ha0, Ha1, Ha2, Ha3⟩
  imodintro
  isplitr; · iexists K; iexact He
  isplitl [Hr]; · unfold rch; iexact Hr
  isplitl [Hb]; · iexact Hb
  isplitl [Hd]; · iexact Hd
  isplitl [Ht]; · iexact Ht
  isplitl [Ht2]; · iexact Ht2
  unfold ats
  isplitl [Ha1 Hc1]; · isplitl [Ha1] <;> iassumption
  isplitl [Ha3 Hc3]; · isplitl [Ha3] <;> iassumption
  isplitl [Ha0] <;> iassumption

theorem held_none (c : Dev nD) (W : Valuation τ sig (Elt F)) : (StableHlo.held (c : Thread nD τ) (∅ : Finset (DevRef τ sig)) W : sProp 𝕄) = BI.emp := by
  unfold StableHlo.held; exact BI.bigSep_empty

theorem scr_eq (c : Dev nD) : (Pipeline.scopedRest spec0 c : sProp 𝕄) = scr c := scopedRest0_eq c

theorem hin (c : Dev nD) : iprop(Pipeline.scopedRest spec0 c ∗ (∃ r, prngReg c r) ∗ StableHlo.held (c : Thread nD τ) (∅ : Finset (DevRef τ sig)) (V c) ∗ Xk V c)
    ⊢ (pdats V 0 c).Φ 0 := by
  rw [show (pdats V 0 c).Φ 0 = Φ₀ V c from rfl, scr_eq]
  unfold Φ₀
  iintro ⟨Hs, Hp, -, HX⟩
  isplitl [HX]; · iexact HX
  isplitl [Hs] <;> iassumption

/-- The buffers as the region leaves them. -/
abbrev V' (c : Dev nD) : Valuation τ sig (Elt F) := Function.update (V c) (Proc.devRef .tc main_v18) (res V)

theorem hout (c : Dev nD) : (pdats V 0 c).Φ (Fin.last cfg0.N)
    ⊢ iprop(Pipeline.scopedRest spec0 c ∗ (∃ r, prngReg c r) ∗ StableHlo.held (c : Thread nD τ) (∅ : Finset (DevRef τ sig)) (V' V c)
      ∗ Pipeline.ownSems0 osem c ∗ Yk c) := by
  rw [show (pdats V 0 c).Φ (Fin.last cfg0.N) = Φ₁ c from rfl, scr_eq, held_none, ownSems0_eq, by_array]
  unfold Φ₁ sems Yk
  iintro ⟨⟨Hb, H0, H1, H2, H3⟩, Hs, Hp⟩
  isplitl [Hs]; · iexact Hs
  isplitl [Hp]; · iexact Hp
  isplitr; · iempintro
  isplitr [Hb]
  · isplitl [H0]; · iexact H0
    isplitl [H1]; · iexact H1
    isplitl [H2] <;> iassumption
  iexact Hb

theorem oweB_mem (c : Dev nD) (i : ℕ) (g : GSem nD τ sig) (u : Unit) (h : 0 < oweB c i g u) : ∃ d, g = barCell d := by
  unfold oweB at h
  by_contra hn
  push Not at hn
  have : (∑ k ∈ rem i, tallyAt (barCell (nx c k)) () 1 : CellTallies nD τ sig Unit) g u = 0 := by
    rw [Finset.sum_apply, Finsupp.finsetSum_apply]
    refine Finset.sum_eq_zero fun k _ => ?_
    rw [tallyAt_apply, if_neg (fun h => hn _ h.1)]
  omega

theorem O₀_above (c : Dev nD) (g : GSem nD τ sig) (u : Unit) (h : 0 < O₀ c g u) : u ∈ L g ∧ 0 < lv g u := by
  unfold O₀ at h
  rw [Pi.add_apply, Finsupp.add_apply, Pi.add_apply, Finsupp.add_apply] at h
  have hk : (∃ d, g = barCell d) ∨ (∃ d k, g = cell 1 d k) ∨ ∃ d k, g = cell 3 d k := by
    rcases Nat.eq_zero_or_pos (oweB c 0 g u) with h1 | h1
    · rcases Nat.eq_zero_or_pos (oweR 1 c 0 g u) with h2 | h2
      · exact .inr (.inr (oweR_mem 3 c 0 g u (by omega)))
      · exact .inr (.inl (oweR_mem 1 c 0 g u h2))
    · exact .inl (oweB_mem c 0 g u h1)
  rcases hk with ⟨d, rfl⟩ | ⟨d, k, rfl⟩ | ⟨d, k, rfl⟩
  · exact ⟨by rw [L_tc]; exact Finset.mem_singleton_self _, by rw [lv_bar]; decide⟩
  · exact ⟨by rw [L_tc]; exact Finset.mem_singleton_self _, by rw [lv_1]; decide⟩
  · exact ⟨by rw [L_tc]; exact Finset.mem_singleton_self _, by rw [lv_3]; decide⟩

theorem owed_0 (c : Dev nD) (h : 0 < cfg0.N + 1) : (pdats V 0 c).owed ⟨0, h⟩ = O₀ c := rfl
theorem owed_succ (c : Dev nD) (t : ℕ) (h : t + 1 < cfg0.N + 1) : (pdats V 0 c).owed ⟨t + 1, h⟩ = 0 := rfl

theorem cut (c : Dev nD) (t : Fin (cfg0.N + 1)) (g : GSem nD τ sig) (i : Unit) (h : 0 < (pdats V 0 c).owed t g i) : i ∈ L g ∧ (0 : ℕ) < lv g i := by
  obtain ⟨_ | t, ht⟩ := t
  · rw [owed_0] at h; exact O₀_above c g i h
  · rw [owed_succ, Pi.zero_apply, Finsupp.zero_apply] at h; exact absurd h (Nat.lt_irrefl 0)

theorem stage_lv (c : Dev nD) (w : Fin 6) (s : Fin (spec0 w).nbuf) : lv ((c : Thread nD τ), .dma ((spec0 w).sem s)) () = 0 := by
  have hw : ∀ w s, ((spec0 w).sem s).val < 6 := by decide
  have h := hw w s
  exact (if_neg (fun h' => by omega)).trans (if_neg (by omega))

theorem hW (c : Dev nD) (w : Fin 6) : (pdats V 0 c).arrAt w 0 = V c (Proc.devRef .tc (Pipeline.arrRef spec0 w)) := rfl

theorem hW' (c : Dev nD) : ∀ w : Fin 6, (pdats V 0 c).arrAt w cfg0.N = V' V c (Proc.devRef .tc (Pipeline.arrRef spec0 w)) := by
  have hne : ∀ w : Fin 6, w ≠ 5 → Proc.devRef (τ := τ) .tc (Pipeline.arrRef spec0 w) ≠ Proc.devRef .tc main_v18 := by decide
  have hi : ∀ w : Fin 6, w ≠ 5 → (cfg0.win w).isOut = false := by decide
  intro w
  by_cases h : w = 5
  · subst h
    rw [arrAt_5]
    exact (Function.update_self (Proc.devRef (τ := τ) .tc main_v18) (res V) (V c)).symm
  · rw [(pdats V 0 c).arrAt_in w (hi w h) _]
    exact (Function.update_of_ne (β := fun b : DevRef τ sig => b.ty.Contents (Elt F)) (hne w h) _ _).symm

/-- The other buffers a device holds: they ride along. -/
abbrev rest : Finset (DevRef τ sig) := Pipeline.ucRefs τ sig \ Pipeline.arrRefs (τ := τ) spec0

theorem rest_V' (c : Dev nD) (b : DevRef τ sig) (hb : b ∈ rest \ (∅ : Finset (DevRef τ sig))) : V' V c b = V c b := by
  refine Function.update_of_ne (β := fun b : DevRef τ sig => b.ty.Contents (Elt F)) (fun e => ?_) _ _
  subst e
  exact absurd (Finset.mem_sdiff.mp (Finset.mem_sdiff.mp hb).1).2 (by decide)

set_option backward.isDefEq.respectTransparency.types false in
def reg : Pipeline.RegionSeg (pcfgs (F := F)) adm (pdats V) () defs₀ 𝒱₀ L lv 0 :=
  Pipeline.RegionSeg.ofTalk (pcfgs (F := F)) adm (pdats V) () defs₀ 𝒱₀ L lv 0 osem ownSemFacts
    ∅ rest (Finset.empty_subset _) launch0.toP rfl (fun c => (body_obl V c).loose)
    (fun _ => 0) O₀ (fun c => (zero_add (O₀ c)).symm) (fun _ => rfl) (fun _ => rfl) (share_eq V)
    V (V' V) (rest_V' V) (Tk V) Yk (Xk V) Yk (hopen V) (hin V) (hout V)
    (fun c => by iintro H; imodintro; iexact H)
    (fun _ => 0)
    ⟨fun c w s => by rw [L_tc]; exact Finset.mem_singleton_self _, fun c w s => Nat.le_of_eq (stage_lv c w s), fun c t g i h => cut V c t g i h⟩
    (fun _ => iprop(emp)) (hW V) (hW' V)

end Cert.Attn

end
-- ==== Proof.Launch.lean ====
/-
  The launch: every cell's invariant is made, and each device is handed its positions, its rights to open, the tokens of what it pays and
  the credit it waits with.
-/
module

public import proofs.«01_k».proof.Proof.Region

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Dev nD → Valuation τ sig (Elt F))

/-! ## Cells and tokens -/

def barEmb : Dev nD ↪ GSem nD τ sig := ⟨fun c => barCell c, fun _ _ h => congrArg (fun g : GSem nD τ sig => g.1.1) h⟩
def cellEmb : Dev nD × (Fin 4 × Fin 31) ↪ GSem nD τ sig :=
  ⟨fun p => cell p.2.1 p.1 p.2.2, fun p q h => by
    have h1 := congrArg (fun g : GSem nD τ sig => g.1.1) h
    have h2 := dmaS_inj (SemLoc.dma.inj (congrArg Prod.snd h))
    exact Prod.ext h1 (Prod.ext h2.1 h2.2)⟩

abbrev barCells : Finset (GSem nD τ sig) := Finset.univ.map barEmb
abbrev dmaCells : Finset (GSem nD τ sig) := Finset.univ.map cellEmb

theorem bar_ne_dma (c d : Dev nD) (a : Fin 4) (k : Fin 31) : barCell c ≠ cell a d k := fun h => by
  have h : SemLoc.reg barS = SemLoc.dma (dmaS a k) := congrArg Prod.snd h
  cases h

/-- Where a device's tokens lie: at its barrier cell, one per duty; at each transfer cell, one. -/
def tokAt (c : Dev nD) : Fin 31 ⊕ (Fin 4 × Fin 31) → GSem nD τ sig × ℕ × Fin 31
  | .inl j => (barCell c, 0, j)
  | .inr p => (cell p.1 c p.2, 0, 0)

theorem tokAt_inj : Function.Injective fun p : Dev nD × (Fin 31 ⊕ (Fin 4 × Fin 31)) => tokAt p.1 p.2 := by
  rintro ⟨c, x⟩ ⟨d, y⟩ h
  rcases x with j | p <;> rcases y with j' | p'
  · have h1 : c = d := congrArg (fun t : GSem nD τ sig × ℕ × Fin 31 => t.1.1.1) h
    have h2 : j = j' := congrArg (fun t : GSem nD τ sig × ℕ × Fin 31 => t.2.2) h
    rw [h1, h2]
  · exact absurd (congrArg (fun t : GSem nD τ sig × ℕ × Fin 31 => t.1) h) (bar_ne_dma c d p'.1 p'.2)
  · exact absurd (congrArg (fun t : GSem nD τ sig × ℕ × Fin 31 => t.1) h).symm (bar_ne_dma d c p.1 p.2)
  · have h1 : cell p.1 c p.2 = cell p'.1 d p'.2 := congrArg (fun t : GSem nD τ sig × ℕ × Fin 31 => t.1) h
    have h2 := cellEmb.injective (show cellEmb (c, p) = cellEmb (d, p') from h1)
    obtain ⟨rfl, rfl⟩ := Prod.mk.inj h2
    rfl

def tokSet : Finset (GSem nD τ sig × ℕ × Fin 31) := Finset.univ.map ⟨_, tokAt_inj⟩

theorem disjoint_cells : Disjoint barCells dmaCells := by
  rw [Finset.disjoint_left]
  rintro g h₁ h₂
  obtain ⟨c, -, rfl⟩ := Finset.mem_map.mp h₁
  obtain ⟨p, -, h⟩ := Finset.mem_map.mp h₂
  exact bar_ne_dma c p.1 p.2.1 p.2.2 h.symm

theorem bar_mem (c : Dev nD) : barCell c ∈ barCells ∪ dmaCells :=
  Finset.mem_union_left _ (Finset.mem_map_of_mem barEmb (Finset.mem_univ c))
theorem cell_mem (a : Fin 4) (c : Dev nD) (k : Fin 31) : cell a c k ∈ barCells ∪ dmaCells :=
  Finset.mem_union_right _ (Finset.mem_map_of_mem cellEmb (Finset.mem_univ (c, (a, k))))

/-- The launch's ghost state: the pipeline's, and this protocol's. -/
def u₀ : UU :=
  (initOf (Pipeline.cells (Pipeline.pin (pcfgs (F := F)) adm) cellOf_inj) (Pipeline.launchToks (Pipeline.pin (pcfgs (F := F)) adm) cellOf_inj),
    launchOf barCells dmaCells tokSet)

/-- Something held whole by the first device. -/
def onFirst (X : sProp (MT nD τ sig Unit (Elt F) ℕ UU ℕ)) (c : Dev nD) : sProp 𝕄 := if c = 0 then X else iprop(emp)
theorem bigSep_onFirst (X : sProp (MT nD τ sig Unit (Elt F) ℕ UU ℕ)) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp (MT nD τ sig Unit (Elt F) ℕ UU ℕ) := onFirst (BI.own (ER (launchOf barCells dmaCells tokSet)))

/-! ## What each device gets -/

/-- Every cell's invariant, and the barrier cells' first round. -/
def cellsUp (κ : GSem nD τ sig → ℕ) : sProp 𝕄 :=
  iprop((bigSep (barCells ∪ dmaCells) fun g => cellInv ER (Rd (parts (Is V)) (OUT (Is V))) (κ g) g) ∗ bigSep barCells fun g => reached ER g 0)
instance cellsUp_persistent (κ : GSem nD τ sig → ℕ) : BI.Persistent (cellsUp V κ) := by unfold cellsUp; infer_instance

/-- The same with the levels. -/
def records (κ : GSem nD τ sig → ℕ) : sProp 𝕄 := iprop(levAts L lv ∗ cellsUp V κ)
instance records_persistent (κ : GSem nD τ sig → ℕ) : BI.Persistent (records V κ) := by unfold records; infer_instance

theorem up_bar (κ : GSem nD τ sig → ℕ) (d : Dev nD) : cellsUp V κ ⊢ iprop(cellInv ER (Rd (parts (Is V)) (OUT (Is V))) (κ (barCell d)) (barCell d) ∗ reached ER (barCell d) 0) := by
  have h1 : (bigSep (barCells ∪ dmaCells) fun g => cellInv ER (Rd (parts (Is V)) (OUT (Is V))) (κ g) g)
    ⊢ (cellInv ER (Rd (parts (Is V)) (OUT (Is V))) (κ (barCell d)) (barCell d) : sProp 𝕄) := bigSep_elim (bar_mem d)
  have h2 : (bigSep barCells fun g => reached ER g 0) ⊢ (reached ER (barCell d) 0 : sProp 𝕄) := bigSep_elim (Finset.mem_map_of_mem barEmb (Finset.mem_univ d))
  unfold cellsUp
  iintro ⟨HI, HR⟩
  isplitl [HI]; · iapply h1; iexact HI
  iapply h2; iexact HR

theorem up_cell (κ : GSem nD τ sig → ℕ) (p : Fin 4 × Dev nD × Fin 31) : cellsUp V κ ⊢ cellInv ER (Rd (parts (Is V)) (OUT (Is V))) (κ (cell p.1 p.2.1 p.2.2)) (cell p.1 p.2.1 p.2.2) := by
  have h1 : (bigSep (barCells ∪ dmaCells) fun g => cellInv ER (Rd (parts (Is V)) (OUT (Is V))) (κ g) g)
    ⊢ (cellInv ER (Rd (parts (Is V)) (OUT (Is V))) (κ (cell p.1 p.2.1 p.2.2)) (cell p.1 p.2.1 p.2.2) : sProp 𝕄) := bigSep_elim (cell_mem p.1 p.2.1 p.2.2)
  unfold cellsUp
  iintro ⟨HI, -⟩
  iapply h1; iexact HI

theorem env_intro (κ : GSem nD τ sig → ℕ) : records V κ ⊢ envK V κ := by
  have h1 : cellsUp V κ ⊢ (bigSep Finset.univ fun d : Dev nD => iprop(cellInv ER (Rd (parts (Is V)) (OUT (Is V))) (κ (barCell d)) (barCell d) ∗ reached ER (barCell d) 0) : sProp 𝕄) :=
    bigSep_intro_persistent fun d _ => up_bar V κ d
  have h2 : cellsUp V κ ⊢ (bigSep Finset.univ fun p : Fin 4 × Dev nD × Fin 31 => cellInv ER (Rd (parts (Is V)) (OUT (Is V))) (κ (cell p.1 p.2.1 p.2.2)) (cell p.1 p.2.1 p.2.2) : sProp 𝕄) :=
    bigSep_intro_persistent fun p _ => up_cell V κ p
  unfold records envK env
  iintro ⟨#Hl, #HR⟩
  isplitr; · iexact Hl
  isplitr; · iapply h1; iexact HR
  iapply h2; iexact HR

/-- What only the device itself holds. -/
def lin (c : Dev nD) : sProp 𝕄 :=
  iprop(atPos ER (barCell c) 0 ∅ 0 ∗ (bigSep Finset.univ fun p : Fin 4 × Fin 31 => openTok ER (cell p.1 c p.2))
    ∗ (bigSep Finset.univ fun k => dutyTok ER (barCell (nx c k)) 0 (rev k)) ∗ toks 0 1 c ∗ toks 2 3 c)

def waitCred (c : Dev nD) : sProp 𝕄 := iprop(cred (tallyAt (barCell c) () 31) ∗ creds 1 c ∗ creds 3 c)

theorem Tk_intro (κ : GSem nD τ sig → ℕ) (c : Dev nD) : iprop(records V κ ∗ (lin c ∗ waitCred c)) ⊢ Tk V c := by
  unfold lin waitCred Tk barE
  iintro ⟨#HR, ⟨Ha, Ho, Hd, Ht, Ht2⟩, Hb, H1, H3⟩
  isplitl [Ho]
  · iexists κ
    isplitr
    · iapply (env_intro V κ); iexact HR
    · iexact Ho
  isplitl [Hb Ha]; · isplitl [Hb] <;> iassumption
  isplitl [Hd]; · iexact Hd
  isplitl [Ht]; · iexact Ht
  isplitl [Ht2]; · iexact Ht2
  isplitl [H1] <;> iassumption

/-! ## The tokens, to those who pay -/

theorem around (Φ : Dev nD → Fin 31 → sProp (MT nD τ sig Unit (Elt F) ℕ UU ℕ)) :
    (bigSep Finset.univ fun c : Dev nD => bigSep Finset.univ fun k : Fin 31 => Φ c k)
      = bigSep Finset.univ fun c : Dev nD => bigSep Finset.univ fun k : Fin 31 => Φ (nx c k) k := by
  rw [BI.bigSep_univ_comm, BI.bigSep_univ_comm (fun (c : Dev nD) (k : Fin 31) => Φ (nx c k) k)]
  exact bigSep_congr fun k _ => bigSep_univ_equiv (ring k) fun c : Dev nD => Φ c k

def one (a : Fin 4) (c : Dev nD) : sProp 𝕄 := bigSep Finset.univ fun k => dutyTok ER (cell a c k) 0 0
def far (a : Fin 4) (c : Dev nD) : sProp 𝕄 := bigSep Finset.univ fun k => dutyTok ER (cell a (nx c k) k) 0 0

theorem toks_split (a b : Fin 4) (c : Dev nD) : (toks a b c : sProp 𝕄) = iprop(one a c ∗ far b c) := by
  unfold toks one far; rw [join]

theorem far_all (a : Fin 4) : (bigSep Finset.univ fun c : Dev nD => (one a c : sProp 𝕄)) = bigSep Finset.univ fun c : Dev nD => far a c :=
  around fun c k => dutyTok ER (cell a c k) 0 0

theorem bar_all : (bigSep Finset.univ fun c : Dev nD => bigSep Finset.univ fun j => (dutyTok ER (barCell c) 0 j : sProp 𝕄))
    = bigSep Finset.univ fun c : Dev nD => bigSep Finset.univ fun k => dutyTok ER (barCell (nx c k)) 0 (rev k) := by
  rw [← around fun c k => (dutyTok ER (barCell c) 0 (rev k) : sProp 𝕄)]
  exact bigSep_congr fun c _ => rev_all fun j => dutyTok ER (barCell c) 0 j

theorem tokSet_eq : bigSep tokSet (fun x => (dutyTok ER x.1 x.2.1 x.2.2 : sProp 𝕄))
    = bigSep Finset.univ fun c : Dev nD => iprop((bigSep Finset.univ fun j => dutyTok ER (barCell c) 0 j) ∗ one 0 c ∗ one 1 c ∗ one 2 c ∗ one 3 c) := by
  unfold tokSet; rw [bigSep_map, bigSep_univ_prod]
  refine bigSep_congr fun c _ => ?_
  rw [bigSep_univ_sum]
  exact congrArg (fun X => iprop((bigSep Finset.univ fun j => dutyTok ER (barCell c) 0 j) ∗ X)) (by_array fun p => dutyTok ER (cell p.1 c p.2) 0 0)

theorem toks_dealt : bigSep tokSet (fun x => (dutyTok ER x.1 x.2.1 x.2.2 : sProp 𝕄))
    ⊢ bigSep Finset.univ fun c : Dev nD => iprop((bigSep Finset.univ fun k => dutyTok ER (barCell (nx c k)) 0 (rev k)) ∗ toks 0 1 c ∗ toks 2 3 c) := by
  rw [tokSet_eq, ← join, ← join, ← join, ← join, ← join, ← join, bar_all, bigSep_congr fun c _ => toks_split 0 1 c, bigSep_congr fun c _ => toks_split 2 3 c,
    ← join, ← join, ← far_all, ← far_all]
  iintro ⟨Hb, H0, H1, H2, H3⟩
  isplitl [Hb]; · iexact Hb
  isplitl [H0 H1]; · isplitl [H0] <;> iassumption
  isplitl [H2] <;> iassumption

/-! ## The credit -/

theorem sum_one (n : ℕ) (k : Fin 31) (c : Dev nD) : (∑ d : Dev nD, if nx d k = c then n else 0) = n := by
  have h (d : Dev nD) : (nx d k = c) = (d = pv c k) := propext ⟨fun h => by rw [← h, pv_nx], fun h => by rw [h, nx_pv]⟩
  simp only [h, Finset.sum_ite_eq', Finset.mem_univ, if_true]

theorem oweB_bar (d c : Dev nD) : oweB d 0 (barCell c) () = ∑ k : Fin 31, if nx d k = c then 1 else 0 := by
  unfold oweB
  rw [rem_zero, Finset.sum_apply, Finsupp.finsetSum_apply]
  refine Finset.sum_congr rfl fun k _ => ?_
  rw [tallyAt_apply]
  exact if_congr ⟨fun h => (congrArg (fun g : GSem nD τ sig => g.1.1) h.1).symm, fun h => ⟨by rw [h], rfl⟩⟩ rfl rfl

theorem oweR_cell (a : Fin 4) (d c : Dev nD) (k : Fin 31) : oweR a d 0 (cell a c k) () = if nx d k = c then N else 0 := by
  unfold oweR
  rw [rem_zero, Finset.sum_apply, Finsupp.finsetSum_apply, Finset.sum_eq_single k]
  · rw [tallyAt_apply]
    exact if_congr ⟨fun h => (congrArg (fun g : GSem nD τ sig => g.1.1) h.1).symm, fun h => ⟨by rw [h], rfl⟩⟩ rfl rfl
  · intro j _ hj
    rw [tallyAt_apply]
    exact if_neg fun h => hj (dmaS_inj (SemLoc.dma.inj (congrArg Prod.snd h.1))).2.symm
  · exact fun h => absurd (Finset.mem_univ k) h

theorem oweR_ne (a : Fin 4) (d : Dev nD) (g : GSem nD τ sig) (h : ∀ e k, g ≠ cell a e k) : oweR a d 0 g () = 0 := by
  rcases Nat.eq_zero_or_pos (oweR a d 0 g ()) with h' | h'
  · exact h'
  · obtain ⟨e, k, he⟩ := oweR_mem a d 0 g () h'
    exact absurd he (h e k)

theorem oweB_ne (d : Dev nD) (g : GSem nD τ sig) (h : ∀ e, g ≠ barCell e) : oweB d 0 g () = 0 := by
  rcases Nat.eq_zero_or_pos (oweB d 0 g ()) with h' | h'
  · exact h'
  · obtain ⟨e, he⟩ := oweB_mem d 0 g () h'
    exact absurd he (h e)

theorem cell_ne {a b : Fin 4} (h : a ≠ b) (c d : Dev nD) (j k : Fin 31) : cell a c j ≠ cell b d k :=
  fun e => h (dmaS_inj (SemLoc.dma.inj (congrArg Prod.snd e))).1

theorem O₀_apply (d : Dev nD) (g : GSem nD τ sig) : O₀ d g () = oweB d 0 g () + (oweR 1 d 0 g () + oweR 3 d 0 g ()) := by
  unfold O₀; rw [Pi.add_apply, Finsupp.add_apply, Pi.add_apply, Finsupp.add_apply]

theorem owed_bar (c : Dev nD) : ∑ d : Dev nD, O₀ d (barCell c) () = 31 := by
  rw [Finset.sum_congr rfl fun d _ => by rw [O₀_apply, oweR_ne 1 d _ fun e k => bar_ne_dma c e 1 k, oweR_ne 3 d _ fun e k => bar_ne_dma c e 3 k, oweB_bar, Nat.add_zero],
    Finset.sum_comm, Finset.sum_congr rfl fun k _ => sum_one 1 k c]
  rfl

theorem owed_1 (c : Dev nD) (k : Fin 31) : ∑ d : Dev nD, O₀ d (cell 1 c k) () = N := by
  rw [Finset.sum_congr rfl fun d _ => by rw [O₀_apply, oweB_ne d _ fun e => (bar_ne_dma e c 1 k).symm, oweR_ne 3 d _ fun e j => cell_ne (by decide) c e k j, oweR_cell, Nat.add_zero, Nat.zero_add],
    sum_one]

theorem owed_3 (c : Dev nD) (k : Fin 31) : ∑ d : Dev nD, O₀ d (cell 3 c k) () = N := by
  rw [Finset.sum_congr rfl fun d _ => by rw [O₀_apply, oweB_ne d _ fun e => (bar_ne_dma e c 3 k).symm, oweR_ne 1 d _ fun e j => cell_ne (by decide) c e k j, oweR_cell, Nat.zero_add, Nat.zero_add],
    sum_one]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The counters waited on with credit from the launch. -/
def waitSem : Unit ⊕ (Fin 31 ⊕ Fin 31) → SemLoc sig
  | .inl _ => .reg barS
  | .inr (.inl k) => .dma (dmaS 1 k)
  | .inr (.inr k) => .dma (dmaS 3 k)

theorem waitSem_inj : Function.Injective waitSem := by
  have hne (a : Fin 4) (k : Fin 31) : SemLoc.reg barS ≠ SemLoc.dma (dmaS a k) := fun h => by cases h
  rintro (x | x | x) (y | y | y) h
  · rfl
  · exact absurd h (hne 1 y)
  · exact absurd h (hne 3 y)
  · exact absurd h.symm (hne 1 x)
  · rw [(dmaS_inj (SemLoc.dma.inj h)).2]
  · exact absurd (dmaS_inj (SemLoc.dma.inj h)).1 (by decide)
  · exact absurd h.symm (hne 3 x)
  · exact absurd (dmaS_inj (SemLoc.dma.inj h)).1 (by decide)
  · rw [(dmaS_inj (SemLoc.dma.inj h)).2]

theorem waitCred_intro (c : Dev nD) : (Pipeline.launchCred O₀ c : sProp 𝕄) ⊢ waitCred c := by
  unfold Pipeline.launchCred waitCred creds
  refine (bigSep_subset (Finset.subset_univ (Finset.univ.map ⟨waitSem, waitSem_inj⟩))).trans (BI.equiv_iff.mpr ?_).1
  rw [bigSep_map, bigSep_univ_sum, bigSep_univ_sum, Finset.univ_unique, bigSep_singleton]
  refine congrArg₂ BI.sep ?_ (congrArg₂ BI.sep (bigSep_congr fun k _ => ?_) (bigSep_congr fun k _ => ?_))
  · exact congrArg cred (launch_at (barCell c) 31 (owed_bar c))
  · exact congrArg cred (launch_at (cell 1 c k) N (owed_1 c k))
  · exact congrArg cred (launch_at (cell 3 c k) N (owed_3 c k))

/-! ## All at once -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides beside the buffers into the region, and out of it. -/
def E0 (c : Dev nD) : sProp 𝕄 := iprop((∃ r, prngReg c r) ∗ Tk V c ∗ ∃ W, owes (c : Thread nD τ) (O₀ c) W)
def E1 (c : Dev nD) : sProp 𝕄 := iprop((∃ r, prngReg c r) ∗ Yk c ∗ ∃ W, owes (c : Thread nD τ) (0 : CellTallies nD τ sig Unit) W)

def side (c : Dev nD) : sProp 𝕄 := iprop((∃ r, prngReg c r) ∗ ∃ W, owes (c : Thread nD τ) (O₀ c) W)

theorem E0_intro (κ : GSem nD τ sig → ℕ) (c : Dev nD) : iprop(records V κ ∗ (lin c ∗ (waitCred c ∗ side c))) ⊢ E0 V c := by
  unfold E0 side
  iintro ⟨HR, Hl, Hw, Hp, HO⟩
  isplitl [Hp]; · iexact Hp
  isplitr [HO]
  · iapply (Tk_intro V κ c)
    isplitl [HR]; · iexact HR
    isplitl [Hl] <;> iassumption
  · iexact HO

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 V) : sProp 𝕄) := by
  have hcore (c : Dev nD) : iprop(unscopedSems0 c ∗ owes (c : Thread nD τ) (O₀ c) ∅ ∗ Pipeline.launchCred O₀ c ∗ prngReg c (ρ c) ∗ G c)
      ⊢ (iprop((waitCred c ∗ side c) ∗ (semVal (barCell c) 0 ∗ G c)) : sProp 𝕄) := by
    rw [unscopedSems0_eq]
    unfold side
    iintro ⟨Hs, HO, Hcr, Hp, HG⟩
    isplitl [HO Hcr Hp]
    · isplitl [Hcr]; · iapply (waitCred_intro c); iexact Hcr
      isplitl [Hp]
      · iexists (ρ c); iexact Hp
      · iexists ∅; iexact HO
    isplitl [Hs] <;> iassumption
  have hall : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => iprop(waitCred c ∗ side c)) ∗ (bigSep Finset.univ fun c : Dev nD => semVal (barCell c) 0) ∗ bigSep Finset.univ G) : sProp 𝕄) := by
    rw [join, join]
    exact bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun p : Fin 4 × Fin 31 => openTok ER (cell p.1 c p.2)) :=
    Entails.of_eq (by rw [bigSep_map, bigSep_univ_prod]; rfl)
  have hG : bigSep Finset.univ (G (F := F)) ⊢ BI.own (ER (launchOf barCells dmaCells tokSet)) := Entails.of_eq (bigSep_onFirst _)
  have hlin : iprop((bigSep Finset.univ fun c : Dev nD => atPos ER (barCell c) 0 ∅ 0)
      ∗ (bigSep Finset.univ fun c : Dev nD => bigSep Finset.univ fun p : Fin 4 × Fin 31 => openTok ER (cell p.1 c p.2))
      ∗ bigSep Finset.univ fun c : Dev nD => iprop((bigSep Finset.univ fun k => dutyTok ER (barCell (nx c k)) 0 (rev k)) ∗ toks 0 1 c ∗ toks 2 3 c))
      ⊢ (bigSep Finset.univ fun c : Dev nD => lin c : sProp 𝕄) := by
    rw [join, join]; exact BI.Entails.refl _
  iintro ⟨H, #Hlev⟩
  ihave H := hall $$ H
  icases H with ⟨HB, Hv, HG⟩
  ihave Hu := hG $$ HG
  ihave Hv := hv $$ Hv
  imod (Rounds.fund_launch ER (Rd (parts (Is V)) (OUT (Is V))) disjoint_cells (fun g _ h => h) tokSet) $$ [Hv Hu] with ⟨%κ, -, #Hinv, #Hr, Hat, Hopen, Htok⟩
  · isplitl [Hv] <;> iassumption
  ihave Hat := hat $$ Hat
  ihave Hopen := hopen $$ Hopen
  ihave Htok := (toks_dealt (F := F)) $$ Htok
  imodintro
  iapply (bigSep_with_persistent (R := records V κ) (Φ := fun c => iprop(lin c ∗ (waitCred c ∗ side c))) fun c _ => E0_intro V κ c)
  isplitr
  · unfold records cellsUp
    isplitr; · iexact Hlev
    isplitr; · iexact Hinv
    iexact Hr
  iapply (Entails.of_eq (join (fun c : Dev nD => lin (F := F) c) (fun c => iprop(waitCred c ∗ side c))))
  isplitr [HB]
  · iapply hlin
    isplitl [Hat]; · iexact Hat
    isplitl [Hopen] <;> iassumption
  · iexact HB

end Cert.Attn

end
-- ==== Proof.Run.lean ====
/-
  The run of the kernel's program: it ends, every argument as it was, every counter at zero, the result what the region left, widened.
-/
module

public import proofs.«01_k».proof.Proof.Launch
public import Idealize.ShloMosaic.Lib.Quiescent

@[expose] public section

noncomputable section

namespace Cert.Attn

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

section
variable (V : Dev nD → Valuation τ sig (Elt F))

theorem arr_sub : Pipeline.arrRefs (τ := τ) spec0 ⊆ Pipeline.ucRefs τ sig := by decide

theorem reg_pre (c : Dev nD) : iprop(StableHlo.held (c : Thread nD τ) (Pipeline.ucRefs τ sig) (V c) ∗ E0 V c) ⊢ (reg V).pre c := by
  show _ ⊢ iprop(StableHlo.held (c : Thread nD τ) (Pipeline.arrRefs spec0) (V c) ∗ (∃ r, prngReg c r)
    ∗ (StableHlo.held (c : Thread nD τ) rest (V c) ∗ emp) ∗ Tk V c ∗ ∃ Wd, owes (c : Thread nD τ) (0 + O₀ c) Wd)
  rw [StableHlo.held_sub_split (c : Thread nD τ) arr_sub (V c), zero_add]
  unfold E0
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg V).post c ⊢ iprop(StableHlo.held (c : Thread nD τ) (Pipeline.ucRefs τ sig) (V' V c) ∗ E1 c) := by
  show iprop(StableHlo.held (c : Thread nD τ) (Pipeline.arrRefs spec0) (V' V c) ∗ (∃ r, prngReg c r)
    ∗ (StableHlo.held (c : Thread nD τ) rest (V' V c) ∗ emp) ∗ Yk c ∗ ∃ Wd, owes (c : Thread nD τ) (0 : CellTallies nD τ sig Unit) Wd) ⊢ _
  rw [StableHlo.held_sub_split (c : Thread nD τ) arr_sub (V' V c)]
  unfold E1
  iintro ⟨Ha, Hp, ⟨Hr, -⟩, HY, HO⟩
  isplitl [Ha Hr]; · isplitl [Ha] <;> iassumption
  isplitl [Hp]; · iexact Hp
  isplitl [HY] <;> iassumption

end

variable (m : (ℓ : Loc nD τ sig) → Buf (Elt F) ℓ) (ρ : Dev nD → PrngReg)

/-- The rests between the items. -/
def Es : Fin 2 → Dev nD → sProp (MT nD τ sig Unit (Elt F) ℕ UU ℕ)
  | 0 => E0 (V1 m)
  | 1 => E1

theorem post_V2 (c : Dev nD) : (reg (V1 m)).post c ⊢ iprop(StableHlo.held (c : Thread nD τ) (Pipeline.ucRefs τ sig) (V2 m (outs (V1 m)) c) ∗ Es m 1 c) := by
  have h : V2 m (outs (V1 m)) c = V' (V1 m) c := congrArg (Function.update (V1 m c) (Proc.devRef .tc main_v18)) (outs_18 (V1 m) c)
  rw [h]; exact reg_post (V1 m) c

theorem unscoped_eq : ∀ sm : SemLoc sig, sm.isScoped .tc = false → sm = .reg barS := by decide

/-- The result's contents at the end. -/
abbrev result (c : Dev nD) := V3 m (outs (V1 m)) c main_v20

abbrev Ends (c : Dev nD) (s : MemSt nD τ sig (Elt F)) : Prop :=
  s.mem ((c.tc : Thread nD τ).loc main_v20) = result m c
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem launch_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ Es m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c))
          : sProp 𝕄) := by
    rw [join]
    exact bigSep_mono fun c _ => by rw [← Pipeline.unscopedBufs_held (Ix := Unit) (Name := ℕ) (U := UU) (Lvl := ℕ) c (V0 m c)]; exact BI.Entails.refl _
  iintro ⟨H, Hl⟩
  ihave H := hsplit $$ H
  icases H with ⟨Hh, Hr⟩
  imod (init (V1 m) ρ) $$ [Hr Hl] with HE
  · isplitl [Hr] <;> iassumption
  imodintro
  iapply (Entails.of_eq (join (fun c : Dev nD => StableHlo.held (c : Thread nD τ) (Pipeline.ucRefs τ sig) (V0 m c)) (Es m 0)))
  isplitl [Hh]; · iexact Hh
  iexact HE

set_option backward.isDefEq.respectTransparency.types false in
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (V1 m)) () cellOf_inj EP defs₀ 𝒱₀ L lv m ρ main
    (segs m (outs (V1 m)) 𝒱₀ L lv (Es m) () (pdats (V1 m)) (reg (V1 m)))
    (fun c Q => by
      rewrite [main_chain c, Seg.run_eq_chain,
        show (segs m (outs (V1 m)) 𝒱₀ L lv (Es m) () (pdats (V1 m)) (reg (V1 m)) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ Es m 0 c))
    (Tₙ := fun c => iprop(StableHlo.held (c : Thread nD τ) (Pipeline.ucRefs τ sig) (V3 m (outs (V1 m)) c) ∗ semVal (barCell c) 0))
    (hch := fun c => ⟨.rfl, reg_pre (V1 m) c, post_V2 m c, ?_⟩)
    (hinit := launch_all m ρ) (QY := fun c s => Ends m c s ∧ s.sem (barCell c) = 0)
    (hfin := fun c s' => ?_) (hQ := fun s h hs => ⟨fun c => (h c).1, sem_eq_zero hs fun c sm hsm => by
        obtain rfl := unscoped_eq sm hsm
        exact (h c).2⟩)
  · show iprop(StableHlo.held (c : Thread nD τ) (Pipeline.ucRefs τ sig) (V3 m (outs (V1 m)) c) ∗ E1 c) ⊢ _
    unfold E1 Yk
    iintro ⟨Hh, -, Hs, HO⟩
    isplitl [Hh Hs]; · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outs (V1 m)) c) s') $$ [Hh HSI]
    · isplitl [Hh] <;> iassumption
    icases Hr with ⟨%h, HSI⟩
    imodintro
    isplitr
    · ipureintro
      refine ⟨⟨h (Proc.devRef .tc main_v20) (Finset.mem_filter.mpr ⟨StableHlo.devRef_mem_tcRefs main_v20, by decide⟩),
        (h (Proc.devRef .tc main_arg0) (Finset.mem_filter.mpr ⟨StableHlo.devRef_mem_tcRefs main_arg0, by decide⟩)).trans (V3_main_arg0 m _ c),
        (h (Proc.devRef .tc main_arg1) (Finset.mem_filter.mpr ⟨StableHlo.devRef_mem_tcRefs main_arg1, by decide⟩)).trans (V3_main_arg1 m _ c),
        (h (Proc.devRef .tc main_arg2) (Finset.mem_filter.mpr ⟨StableHlo.devRef_mem_tcRefs main_arg2, by decide⟩)).trans (V3_main_arg2 m _ c),
        (h (Proc.devRef .tc main_arg3) (Finset.mem_filter.mpr ⟨StableHlo.devRef_mem_tcRefs main_arg3, by decide⟩)).trans (V3_main_arg3 m _ c),
        (h (Proc.devRef .tc main_arg4) (Finset.mem_filter.mpr ⟨StableHlo.devRef_mem_tcRefs main_arg4, by decide⟩)).trans (V3_main_arg4 m _ c)⟩, ?_⟩
      simpa using hb
    · iexact HSI

end Cert.Attn

end
-- ==== Proof.Same.lean ====
/-
  The kernel's program and its reading over the extended reals are the same program: what is proved of the first at every reading of its
  floats holds of the second.
-/
module

public import proofs.«01_k».proof.Proof.Run
public import proofs.«01_k».proof.KernelIdeal
public import proofs.«01_k».proof.Proof.Gen.KernelIdeal

@[expose] public section

noncomputable section

namespace Cert.Attn

open Idealize.ShloMosaic Idealize.SL.Sem

theorem body_same : Cert.KernelIdeal.cc0__body (F := Ideal) = Cert.Kernel.cc0__body (F := Ideal) := rfl

set_option maxHeartbeats 4000000 in
theorem main_same : Cert.KernelIdeal.main (F := Ideal) = Cert.Kernel.main (F := Ideal) := rfl

theorem defs₀_same : Cert.KernelIdeal.defs₀ (F := Ideal) = Cert.Kernel.defs₀ (F := Ideal) := by
  refine congrArg (Defs.onTc (nD := Cert.Kernel.nD) (τ := Cert.Kernel.τ) (sig := Cert.Kernel.sig) (Val := Elt Ideal) (Λ := Cert.Kernel.Λ₀)) ?_
  funext l a
  match l, a with
  | 0, (t, s) =>
    exact congrFun (congrFun (congrFun (congrFun (congrFun (congrFun (congrFun (congrFun (congrFun (congrFun (congrFun (congrFun (congrFun (congrFun (congrFun
      (congrFun (congrFun (congrFun (congrFun (congrFun (congrFun (congrFun (congrFun (congrFun body_same _) _) _) _) _) _) _) _) _) _) _) _) _) _) _) _) _) _) _) _) _) _) _) _
  | ⟨n + 1, h⟩, _ => exact absurd h (Nat.not_lt.2 (Nat.le_add_left _ _))

theorem defs_same : Cert.KernelIdeal.defs (F := Ideal) = Cert.Kernel.defs (F := Ideal) :=
  congrArg (Pipeline.defs Cert.Kernel.pcfgs) defs₀_same

/-- The run of the program read over the extended reals. -/
theorem run_ideal (m : (ℓ : Loc Cert.Kernel.nD Cert.Kernel.τ Cert.Kernel.sig) → Buf (Elt Ideal) ℓ) (ρ : Dev Cert.Kernel.nD → PrngReg) :
    θ_run (Cert.KernelIdeal.defs (F := Ideal)) (onTc (τ := Cert.Kernel.τ) (Cert.KernelIdeal.main (F := Ideal))) ⟨m, fun _ => 0, ρ⟩
      (fun r => (∀ c : Dev Cert.Kernel.nD, Ends m c r.2) ∧ r.2.sem = fun _ => 0) := by
  rw [defs_same, main_same]
  exact run_main m ρ

end Cert.Attn

end
-- ==== Proof.Math.lean ====
/-
  What a device computes, read at an index over the extended reals.
-/
module

public import proofs.«01_k».proof.Proof.Local
public import Idealize.ShloMosaic.Lib.Pointwise

@[expose] public section

set_option maxRecDepth 16384

noncomputable section

namespace Cert.Attn

open Idealize.ShloMosaic Cert.Kernel Cert.Kernel.Gen

/-- The weights of a row of scores: exponentials of the distances to the row's greatest score, divided by their sum. -/
def weights (z : Fin 512 → EReal) (t : Fin 512) : EReal :=
  Ideal.div (Ideal.exp (z t - Finset.univ.fold max (Ideal.ofBits .f32 0xFF800000#32) z))
    (∑ u, Ideal.exp (z u - Finset.univ.fold max (Ideal.ofBits .f32 0xFF800000#32) z))

/-- A row of scores: the query against every key, times an eighth, or minus 10⁹ where the mask is off. -/
def score (mk : Fin 512 → BitVec 1) (q : Fin 64 → EReal) (k : Fin 512 → Fin 64 → EReal) (t : Fin 512) : EReal :=
  Scalar.select (mk t) ((∑ d, q d * k t d) * Ideal.ofBits .f32 0x3E000000#32) (Ideal.ofBits .f32 0xCE6E6B28#32)

theorem pay1_at (x : Vec Ideal S1024x768 .bf16) (w : Vec Ideal S768x512 .bf16) (r : Fin 1024) (c : Fin 512) :
    k0_pay1 (F := Ideal) x w (ix2 r c) = ∑ k : Fin 768, x (ix2 r k) * w (ix2 k c) := by
  pointwise [k0_pay1]

theorem pay45_at (w : Vec Ideal S512x768 .bf16) (x : Vec Ideal S1024x512 .bf16) (r : Fin 1024) (c : Fin 768) :
    k0_pay45 (F := Ideal) w x (ix2 r c) = ∑ k : Fin 512, x (ix2 r k) * w (ix2 k c) := by
  pointwise [k0_pay45]

theorem pay19_at (mk : IVec S512x512 1) (q : Vec Ideal S512x64 .bf16) (k v : Vec Ideal S1x512x64 .bf16) (s : Fin 512) (e : Fin 64) :
    k0_pay19 (F := Ideal) mk q k v (ix2 s e)
      = ∑ t : Fin 512, weights (score (fun t => mk (ix2 s t)) (fun d => q (ix2 s d)) (fun t d => k (ix3 0 t d))) t * v (ix3 0 t e) := by
  pointwise [k0_pay19]
  rfl

/-- The block of 64 to which a row or a column belongs, as the kernel computes it from the index. -/
theorem block_word : ∀ s : Fin 512,
    Scalar.select
      (IntOp.andi
        (IntOp.cmpi .ne
          (IntOp.subi (BitVec.setWidth 32 (IntOp.cmpi .sgt (BitVec.ofNat 32 s.val) 0#32))
            (BitVec.setWidth 32 (IntOp.cmpi .slt (BitVec.ofNat 32 s.val) 0#32)))
          (Scalar.subi (Scalar.extui (Scalar.cmpi .sgt 64#32 0#32)) (Scalar.extui (Scalar.cmpi .slt 64#32 0#32))))
        (IntOp.cmpi .ne (IntOp.remsi .vector (BitVec.ofNat 32 s.val) 64#32) 0#32))
      (IntOp.subi (IntOp.divsi .vector (BitVec.ofNat 32 s.val) 64#32) 1#32)
      (IntOp.divsi .vector (BitVec.ofNat 32 s.val) 64#32) = BitVec.ofNat 32 (s.val / 64) := by
  decide +kernel

theorem pay5_at (s t : Fin 512) : k0_pay5 k0_pay2 k0_pay3 k0_pay4 (ix2 s t) = BitVec.ofNat 32 (s.val / 64) := by
  pointwise [k0_pay2, k0_pay3, k0_pay4, k0_pay5]
  exact block_word s

theorem pay6_at (s t : Fin 512) : k0_pay6 (ix2 s t) = BitVec.ofNat 32 (t.val / 64) := by
  pointwise [k0_pay6]
  exact block_word t

/-- The mask's bit for row block `a` and column block `b`. -/
def bit (a b : ℕ) : BitVec 1 := BitVec.ofBool (decide (a = b ∨ b = 0 ∨ (a + b) % 3 = 0))

theorem maskV_at (s t : Fin 512) : maskV (ix2 s t) = bit (s.val / 64) (t.val / 64) := by
  pointwise [maskV, k0_pay7, k0_pay8, k0_pay9, k0_pay10, k0_pay11]
  simp only [pay5_at, pay6_at]
  have hs : s.val / 64 < 8 := by have := s.isLt; omega
  have ht : t.val / 64 < 8 := by have := t.isLt; omega
  generalize s.val / 64 = a at hs ⊢
  generalize t.val / 64 = b at ht ⊢
  revert a b
  decide +kernel

end Cert.Attn

end
-- ==== Proof.Host.lean ====
/-
  What the host hands to the region, and what it makes of the region's result.
-/
module

public import proofs.«01_k».proof.Proof.Run
public import proofs.«01_k».proof.Proof.Math
public import Idealize.ShloMosaic.Lib.Tactic

@[expose] public section

set_option maxRecDepth 16384

noncomputable section

namespace Cert.Attn

open Idealize.ShloMosaic Idealize.ShloMosaic.TcCoe Idealize.SL.Sem Cert.Kernel Cert.Kernel.Gen

variable {F : FTy → Type} [FloatOps F] (m : (ℓ : Loc nD τ sig) → Buf (Elt F) ℓ) (c : Dev nD)

/-- The column at which a device's share of the keys and values begins, as the host computes it. -/
def startWord : IVec S_ 32 :=
  let w : IVec S_ 32 := muli (Host.remui (Host.divui (constantI S_ 32 (Dev.word c)) (constantI S_ 32 1#32)) (constantI S_ 32 32#32)) (constantI S_ 32 512#32)
  select (cmpi .slt w (constantI S_ 32 0#32)) (addi w (constantI S_ 32 16384#32)) w

/-- A device's share of the keys or of the values. -/
def share (y : Vec F S2x512x256x64 .bf16) : Vec F S2x512x512 .bf16 :=
  Host.dynamicSlice S2x512x512 (shapeCast S2x512x16384 y shapeCasts_S2x512x256x64_S2x512x16384)
    (fun k => ((![constantI S_ 32 0#32, constantI S_ 32 0#32, startWord c] : Fin 3 → IVec S_ 32) k (Shape.Idx.first h_S_)).toInt) sliceFits_S2x512x16384_S2x512x512

theorem host_x : V1 m c main_v17 = shapeCast S1024x768 (m ((c : Thread nD τ).loc main_arg0)) shapeCasts_S2x512x768_S1024x768 := by
  unfold_abbrev_sides
  after_results
  rfl

/-- A slice's three start indices, each read at its own buffer. -/
theorem starts {W : Valuation τ sig (Elt F)} {a b d : Ref sig .tc} (ha : a.ty = ⟨S_, .i32⟩) (hb : b.ty = ⟨S_, .i32⟩) (hd : d.ty = ⟨S_, .i32⟩)
    (h : ∀ k : Fin 3, ((![a, b, d] k).ty.Contents (Elt F)) = IVec S_ 32) :
    (fun k : Fin 3 => cast (h k) (W (Proc.devRef .tc (![a, b, d] k))))
      = ![cast (h 0) (W (Proc.devRef .tc a)), cast (h 1) (W (Proc.devRef .tc b)), cast (h 2) (W (Proc.devRef .tc d))] := by
  funext k
  fin_cases k <;> rfl

theorem host_k : V1 m c main_v10 = share c (m ((c : Thread nD τ).loc main_arg2)) := by
  unfold_abbrev_sides
  after_results
  refine congrArg (fun ix : Fin 3 → IVec S_ 32 => Host.dynamicSlice S2x512x512 (shapeCast S2x512x16384 (m ((c : Thread nD τ).loc main_arg2)) shapeCasts_S2x512x256x64_S2x512x16384)
    (fun k => (ix k (Shape.Idx.first h_S_)).toInt) sliceFits_S2x512x16384_S2x512x512) ((starts rfl rfl rfl _).trans ?_)
  after_results_simp
  rfl

theorem host_v : V1 m c main_v16 = share c (m ((c : Thread nD τ).loc main_arg3)) := by
  unfold_abbrev_sides
  after_results
  refine congrArg (fun ix : Fin 3 → IVec S_ 32 => Host.dynamicSlice S2x512x512 (shapeCast S2x512x16384 (m ((c : Thread nD τ).loc main_arg3)) shapeCasts_S2x512x256x64_S2x512x16384)
    (fun k => (ix k (Shape.Idx.first h_S_)).toInt) sliceFits_S2x512x16384_S2x512x512) ((starts rfl rfl rfl _).trans ?_)
  after_results_simp
  rfl

theorem host_out : result m c = extf .f32 (shapeCast S2x512x768 (res (V1 m)) shapeCasts_S1024x768_S2x512x768 : FVec F S2x512x768 .bf16) bitsLt_bf16_f32 := by
  unfold_abbrev_sides
  after_results
  rfl

end Cert.Attn

end
-- ==== Proof.Reference.lean ====
/-
  The reference, read at an index over the extended reals.
-/
module

public import proofs.«01_k».proof.Proof.Math
public import proofs.«01_k».proof.Proof.Gen.ReferenceIdeal.Read
public import Idealize.ShloMosaic.Lib.Pointwise
public import Idealize.ShloMosaic.Lib.Routing.OpsOrder

@[expose] public section

set_option maxRecDepth 16384

noncomputable section

namespace Cert.Attn

open Idealize.ShloMosaic Cert.ReferenceIdeal Cert.ReferenceIdeal.Gen Cert.ReferenceIdeal.Read

/-- The block of 64 to which a row or a column belongs, as the reference computes it from the index. -/
theorem ref_block_word : ∀ s : Fin 512,
    Scalar.select
      (IntOp.andi
        (IntOp.cmpi .ne
          (if BitVec.ofNat 32 s.val = 0 then (0 : BitVec 32) else if (BitVec.ofNat 32 s.val).msb = true then -1 else 1)
          (if (64#32 : BitVec 32) = 0 then (0 : BitVec 32) else if BitVec.msb 64#32 = true then -1 else 1))
        (IntOp.cmpi .ne (IntOp.remsi .host (BitVec.ofNat 32 s.val) 64#32) 0#32))
      (IntOp.subi (IntOp.divsi .host (BitVec.ofNat 32 s.val) 64#32) 1#32)
      (IntOp.divsi .host (BitVec.ofNat 32 s.val) 64#32) = BitVec.ofNat 32 (s.val / 64) := by
  decide +kernel

theorem ref_rows (s : Fin 512) : val_main_v6 (F := Ideal) (ix1 s) = BitVec.ofNat 32 (s.val / 64) := by
  pointwise [val_main_v5, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v6]
  exact ref_block_word s

theorem ref_cols (s : Fin 512) : val_main_v9 (F := Ideal) (ix1 s) = BitVec.ofNat 32 (s.val / 64) := by
  pointwise [val_main_v8, val_main_c_0, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13, val_main_v9]
  exact ref_block_word s

theorem ref_mask (s t : Fin 512) : val_main_v24 (F := Ideal) (ix2 s t) = bit (s.val / 64) (t.val / 64) := by
  pointwise [val_main_v7, val_main_v10, val_main_v11, val_main_v12, val_main_v13, val_main_v14, val_main_c_1, val_main_v15, val_main_v16, val_main_v17, val_main_v18, val_main_v19, val_main_v20, val_main_c_2,
   val_main_call2_v0, val_main_call2_c, val_main_call2_v1, val_main_call2_c_0, val_main_call2_v2, val_main_call2_v3, val_main_call2_v4, val_main_call2_c_1, val_main_call2_v5, val_main_call2_v6, val_main_call2_c_2, val_main_call2_v7, val_main_call2_v8, val_main_call2_c_3, val_main_call2_v9, val_main_call2_v10, val_main_call2_v11, val_main_call2_v12, val_main_call2_v13, val_main_call2_v14, val_main_v21, val_main_c_3, val_main_v22, val_main_v23, val_main_v24]
  simp only [ref_rows, ref_cols]
  have hs : s.val / 64 < 8 := by have := s.isLt; omega
  have ht : t.val / 64 < 8 := by have := t.isLt; omega
  generalize s.val / 64 = a at hs ⊢
  generalize t.val / 64 = b at ht ⊢
  have h3 : id (constantI S_ 32 3#32) ix0 = 3#32 := rfl
  rw [h3]
  revert a b
  decide +kernel

/-- No row is masked whole: the first block of columns is never masked. -/
theorem ref_keep (s : Fin 512) : val_main_v39 (F := Ideal) (ix1 s) = 1#1 := by
  pointwise [val_main_v39, val_main_c_6]
  rw [Routing.fold_ori]
  refine ⟨0, Finset.mem_univ _, ?_⟩
  rw [ref_mask]
  show bit (s.val / 64) 0 = 1#1
  simp [bit]

variable (x0 : (⟨S2x512x768, .bf16⟩ : BufTy).Contents (Elt Ideal)) (x1 : (⟨S768x16384, .bf16⟩ : BufTy).Contents (Elt Ideal))
  (x2 x3 : (⟨S2x512x256x64, .bf16⟩ : BufTy).Contents (Elt Ideal)) (x4 : (⟨S16384x768, .bf16⟩ : BufTy).Contents (Elt Ideal))

/-- A query of the reference: batch `b`, row `s`, column `c` of all heads' columns. -/
def query (b : Fin 2) (s : Fin 512) (c : Fin 16384) : EReal := ∑ k : Fin 768, x0 (ix3 b s k) * x1 (ix2 k c)

/-- The weights of the reference: batch `b`, head `h`, row `s`, column `t`. -/
def attend (b : Fin 2) (h : Fin 256) (s t : Fin 512) : EReal :=
  weights (score (fun t => bit (s.val / 64) (t.val / 64))
    (fun d => query x0 x1 b s ⟨h.val * 64 + d.val, by have := h.isLt; have := d.isLt; omega⟩) (fun t d => x2 (ix4 b t h d))) t

theorem ref_query (b : Fin 2) (s : Fin 512) (h : Fin 256) (d : Fin 64) :
    val_main_v25 (F := Ideal) x0 x1 (ix4 b s h d) = query x0 x1 b s ⟨h.val * 64 + d.val, by have := h.isLt; have := d.isLt; omega⟩ := by
  pointwise [val_main_v0, val_main_v1, val_main_v2, val_main_v3, val_main_v4, val_main_v25]
  rfl

theorem ref_score (b : Fin 2) (h : Fin 256) (s t : Fin 512) :
    val_main_v33 (F := Ideal) x0 x1 x2 (ix4 b h s t)
      = score (fun t => bit (s.val / 64) (t.val / 64))
          (fun d => query x0 x1 b s ⟨h.val * 64 + d.val, by have := h.isLt; have := d.isLt; omega⟩) (fun t d => x2 (ix4 b t h d)) t := by
  pointwise [val_main_v26, val_main_v27, val_main_v28, val_main_v29, val_main_cst, val_main_v30, val_main_v31, val_main_v32, val_main_cst_4, val_main_call3_v0, val_main_call3_v1, val_main_call3_v2, val_main_v33]
  simp only [ref_mask, ref_query]
  rfl

theorem ref_weights (b : Fin 2) (h : Fin 256) (s t : Fin 512) :
    val_main_v47 (F := Ideal) x0 x1 x2 (ix4 b h s t) = attend x0 x1 x2 b h s t := by
  pointwise [val_main_cst_5, val_main_v34, val_main_v35, val_main_v36, val_main_v37, val_main_v38, val_main_v40, val_main_cst_7, val_main_v41, val_main_v42, val_main_cst_8, val_main_call4_v0, val_main_call4_v1, val_main_call4_v2, val_main_v43, val_main_v44, val_main_v45, val_main_v46, val_main_cst_9, val_main_call5_v0, val_main_call5_v1, val_main_call5_v2, val_main_v47]
  simp only [ref_keep, ref_score, ValueIdx.select_one]
  rfl

/-- The context of the reference: batch `b`, row `s`, column `c` of all heads' columns. -/
def context (b : Fin 2) (s : Fin 512) (c : Fin 16384) : EReal :=
  ∑ t : Fin 512, attend x0 x1 x2 b ⟨c.val / 64, by have := c.isLt; omega⟩ s t
    * x3 (ix4 b t ⟨c.val / 64, by have := c.isLt; omega⟩ ⟨c.val % 64, Nat.mod_lt _ (by decide)⟩)

/-- The reference's result. -/
theorem ref_out (b : Fin 2) (s : Fin 512) (j : Fin 768) :
    val_main_v53 (F := Ideal) x0 x1 x2 x3 x4 (ix3 b s j) = ∑ c : Fin 16384, context x0 x1 x2 x3 b s c * x4 (ix2 c j) := by
  pointwise [val_main_v48, val_main_v49, val_main_v50, val_main_v51, val_main_v52, val_main_v53]
  refine Finset.sum_congr rfl fun c _ => congrArg (· * x4 (ix2 c j)) (Finset.sum_congr rfl fun t _ => ?_)
  rw [ref_weights, mul_comm]

end Cert.Attn

end
-- ==== Proof.Value.lean ====
/-
  What a device computes is its share of what the reference computes.
-/
module

public import proofs.«01_k».proof.Proof.Host
public import proofs.«01_k».proof.Proof.Reference
public import Idealize.ShloMosaic.Lib.Layout

@[expose] public section

set_option maxRecDepth 16384

noncomputable section

namespace Cert.Attn

open Idealize.ShloMosaic Idealize.ShloMosaic.TcCoe Cert.Kernel Cert.Kernel.Gen

/-! ## What the host hands over -/

/-- The column at which device `c`'s share begins. -/
theorem start_at : ∀ c : Fin 32, (startWord c (Shape.Idx.first h_S_)).toInt = 512 * c.val := by
  decide +kernel

theorem share_at (c : Dev nD) (y : Vec Ideal S2x512x256x64 .bf16) (b : Fin 2) (t e : Fin 512) (h : Fin 256) (d : Fin 64)
    (he : 512 * c.val + e.val = 64 * h.val + d.val) : share c y (ix3 b t e) = y (ix4 b t h d) := by
  pointwise [share]
  have hb := b.isLt
  have ht := t.isLt
  have he' := e.isLt
  have hc := c.isLt
  have hd := d.isLt
  have h0 := Host.clampedStart_of_le (s := S2x512x16384) (t := S2x512x512) rfl
    (fun k => ((![constantI S_ 32 0#32, constantI S_ 32 0#32, startWord c] : Fin 3 → IVec S_ 32) k (Shape.Idx.first h_S_)).toInt) 0 0 rfl (by decide)
  have h1 := Host.clampedStart_of_le (s := S2x512x16384) (t := S2x512x512) rfl
    (fun k => ((![constantI S_ 32 0#32, constantI S_ 32 0#32, startWord c] : Fin 3 → IVec S_ 32) k (Shape.Idx.first h_S_)).toInt) 1 0 rfl (by decide)
  have h2 := Host.clampedStart_of_le (s := S2x512x16384) (t := S2x512x512) rfl
    (fun k => ((![constantI S_ 32 0#32, constantI S_ 32 0#32, startWord c] : Fin 3 → IVec S_ 32) k (Shape.Idx.first h_S_)).toInt) 2 (512 * c.val)
    ((start_at c).trans (by push_cast; rfl)) (by show 512 * c.val + 512 ≤ 16384; have : c.val < 32 := hc; omega)
  simp only [h0, h1, h2]
  congr 1
  funext a
  fin_cases a
  · exact Fin.ext (by show 0 + b.val = b.val; omega)
  · exact Fin.ext (by show 0 + t.val = t.val; omega)
  · exact Fin.ext (by show (512 * c.val + e.val) / 64 = h.val; omega)
  · exact Fin.ext (by show (512 * c.val + e.val) % 64 = d.val; omega)

theorem flat_at (y : Vec Ideal S2x512x768 .bf16) (r : Fin 1024) (k : Fin 768) (b : Fin 2) (s : Fin 512) (h : r.val = 512 * b.val + s.val) :
    shapeCast S1024x768 y shapeCasts_S2x512x768_S1024x768 (ix2 r k) = y (ix3 b s k) := by
  pointwise
  have := s.isLt
  exact congrArg₂ (fun b s => y (ix3 b s k)) (Fin.ext (by show r.val / 512 = b.val; omega)) (Fin.ext (by show r.val % 512 = s.val; omega))

theorem out_at (y : Vec Ideal S1024x768 .bf16) (b : Fin 2) (s : Fin 512) (j : Fin 768) :
    extf .f32 (shapeCast S2x512x768 y shapeCasts_S1024x768_S2x512x768 : FVec Ideal S2x512x768 .bf16) bitsLt_bf16_f32 (ix3 b s j)
      = y (ix2 ⟨b.val * 512 + s.val, by have := b.isLt; have := s.isLt; omega⟩ j) := by
  pointwise

/-! ## A device's heads -/

theorem rd2_at (f : Vec Ideal S1024x512 .bf16) (off : Fin 2 → ℕ) (inb) (s : Fin 512) (d : Fin 64) (r : Fin 1024) (c : Fin 512)
    (hr : r.val = off 0 + s.val) (hc : c.val = off 1 + d.val) : rd2 f off inb (ix2 s d) = f (ix2 r c) := by
  unfold rd2
  congr 1
  funext a
  fin_cases a
  · exact Fin.ext ((Rect.emb_apply _ _ _).trans (by rw [show r = r from rfl]; show off 0 + 1 * s.val = r.val; omega))
  · exact Fin.ext ((Rect.emb_apply _ _ _).trans (by show off 1 + 1 * d.val = c.val; omega))

theorem rd3_at (f : Vec Ideal S2x512x512 .bf16) (off : Fin 3 → ℕ) (inb) (t : Fin 512) (d : Fin 64) (b : Fin 2) (c : Fin 512)
    (h0 : b.val = off 0) (h1 : off 1 = 0) (h2 : c.val = off 2 + d.val) : rd3 f off inb (ix3 0 t d) = f (ix3 b t c) := by
  unfold rd3
  congr 1
  funext a
  fin_cases a
  · exact Fin.ext ((Rect.emb_apply _ _ _).trans (by show off 0 + 1 * 0 = b.val; omega))
  · exact Fin.ext ((Rect.emb_apply _ _ _).trans (by show off 1 + 1 * t.val = t.val; omega))
  · exact Fin.ext ((Rect.emb_apply _ _ _).trans (by show off 2 + 1 * d.val = c.val; omega))

/-- One head at a row and a column, from the device's inputs. -/
theorem head_at (I : Ins Ideal) (j : ℕ) (hj : j < 16) (b : Fin 2) (s c : Fin 512) (e : Fin 64) (r : Fin 1024) (hr : r.val = 512 * b.val + s.val)
    (hb : b.val = j / 8) (hc : c.val = 64 * (j % 8) + e.val) :
    head I j hj (ix2 s e) = ∑ t : Fin 512,
      weights (score (fun t => bit (s.val / 64) (t.val / 64))
        (fun d => ∑ k : Fin 768, I.x (ix2 r k) * I.wq (ix2 k ⟨64 * (c.val / 64) + d.val, by have := c.isLt; have := d.isLt; omega⟩))
        (fun t d => I.k (ix3 b t ⟨64 * (c.val / 64) + d.val, by have := c.isLt; have := d.isLt; omega⟩))) t * I.v (ix3 b t c) := by
  have he := e.isLt
  have hc' : c.val / 64 = j % 8 := by omega
  refine (pay19_at _ _ _ _ s e).trans (Finset.sum_congr rfl fun t _ => ?_)
  refine congrArg₂ (fun z w => weights z t * w) ?_ (rd3_at I.v _ _ t e b c hb rfl hc)
  simp only [maskV_at]
  refine congrArg₂ (score _) (funext fun d => ?_) (funext fun t => funext fun d => ?_)
  · exact (rd2_at _ _ _ s d r ⟨64 * (c.val / 64) + d.val, _⟩ (by show r.val = 512 * (j / 8) + s.val; omega)
      (by show 64 * (c.val / 64) + d.val = 64 * (j % 8) + d.val; omega)).trans (pay1_at I.x I.wq _ _)
  · exact rd3_at _ _ _ t d b _ hb rfl (by show 64 * (c.val / 64) + d.val = 64 * (j % 8) + d.val; omega)

/-- A device's context at a row and a column, from its inputs. -/
theorem ctx_at (I : Ins Ideal) (b : Fin 2) (s c : Fin 512) (r : Fin 1024) (hr : r.val = 512 * b.val + s.val) :
    ctx I (ix2 r c) = ∑ t : Fin 512,
      weights (score (fun t => bit (s.val / 64) (t.val / 64))
        (fun d => ∑ k : Fin 768, I.x (ix2 r k) * I.wq (ix2 k ⟨64 * (c.val / 64) + d.val, by have := c.isLt; have := d.isLt; omega⟩))
        (fun t d => I.k (ix3 b t ⟨64 * (c.val / 64) + d.val, by have := c.isLt; have := d.isLt; omega⟩))) t * I.v (ix3 b t c) := by
  have hs := s.isLt
  have hc := c.isLt
  have es : (⟨r.val % 512, Nat.mod_lt _ (by decide)⟩ : Fin 512) = s := Fin.ext (by show r.val % 512 = s.val; omega)
  refine Eq.trans ?_ (head_at I (8 * (r.val / 512) + c.val / 64) (head_lt (ix2 r c)) b s c ⟨c.val % 64, Nat.mod_lt _ (by decide)⟩ r hr
    (by omega) (by show c.val = 64 * ((8 * (r.val / 512) + c.val / 64) % 8) + c.val % 64; omega))
  exact congrArg (fun z => head I (8 * (r.val / 512) + c.val / 64) (head_lt (ix2 r c)) (ix2 z ⟨c.val % 64, Nat.mod_lt _ (by decide)⟩)) es

/-! ## A device's share of the reference -/

variable (x0 : (⟨S2x512x768, .bf16⟩ : BufTy).Contents (Elt Ideal)) (x1 : (⟨⟨2, ![768, 16384]⟩, .bf16⟩ : BufTy).Contents (Elt Ideal))
  (x2 x3 : (⟨S2x512x256x64, .bf16⟩ : BufTy).Contents (Elt Ideal)) (x4 : (⟨⟨2, ![16384, 768]⟩, .bf16⟩ : BufTy).Contents (Elt Ideal))

/-- What device `c`'s region starts from, when the arguments are shares of the reference's. -/
def insOf (c : Dev nD) : Ins Ideal where
  x := shapeCast S1024x768 x0 shapeCasts_S2x512x768_S1024x768
  wq := Layout.block ⟨2, ![768, 512]⟩ ⟨2, ![768, 16384]⟩ 1 32 c x1
  k := share c x2
  v := share c x3
  wo := Layout.block ⟨2, ![512, 768]⟩ ⟨2, ![16384, 768]⟩ 0 32 c x4

/-- Column `k` of device `c`, among all columns. -/
def col (c : Fin 32) (k : Fin 512) : Fin 16384 := ⟨512 * c.val + k.val, by have := c.isLt; have := k.isLt; omega⟩

theorem wq_at (c : Fin 32) (k : Fin 768) (e : Fin 512) :
    Layout.block ⟨2, ![768, 512]⟩ ⟨2, ![768, 16384]⟩ 1 32 c x1 (by decide) (ix2 k e) = x1 (ix2 k (col c e)) := by
  rw [Layout.block_apply]
  congr 1
  funext a
  fin_cases a
  · rfl
  · exact Fin.ext (by show c.val * 512 + e.val = 512 * c.val + e.val; omega)

theorem wo_at (c : Fin 32) (e : Fin 512) (j : Fin 768) :
    Layout.block ⟨2, ![512, 768]⟩ ⟨2, ![16384, 768]⟩ 0 32 c x4 (by decide) (ix2 e j) = x4 (ix2 (col c e) j) := by
  rw [Layout.block_apply]
  congr 1
  funext a
  fin_cases a
  · exact Fin.ext (by show c.val * 512 + e.val = 512 * c.val + e.val; omega)
  · rfl

/-- A device's context is its columns of the reference's. -/
theorem ctx_ref (d : Fin 32) (b : Fin 2) (s e : Fin 512) (r : Fin 1024) (hr : r.val = 512 * b.val + s.val) :
    ctx (insOf x0 x1 x2 x3 x4 d) (ix2 r e) = context x0 x1 x2 x3 b s (col d e) := by
  have hd := d.isLt
  have he := e.isLt
  rw [ctx_at _ b s e r hr]
  unfold context attend query
  refine Finset.sum_congr rfl fun t _ => ?_
  have hv : (insOf x0 x1 x2 x3 x4 d).v (ix3 b t e) = x3 (ix4 b t ⟨(col d e).val / 64, by have := (col d e).isLt; omega⟩ ⟨(col d e).val % 64, Nat.mod_lt _ (by decide)⟩) :=
    share_at d x3 b t e _ _ (by show 512 * d.val + e.val = 64 * ((512 * d.val + e.val) / 64) + (512 * d.val + e.val) % 64; omega)
  rw [hv]
  refine congrArg (fun z => weights z t * _) (congrArg₂ (score _) (funext fun a => Finset.sum_congr rfl fun k _ => ?_) (funext fun u => funext fun a => ?_))
  · have ha := a.isLt
    refine congrArg₂ (· * ·) (flat_at x0 r k b s hr) ((wq_at x1 d k _).trans (congrArg (fun z => x1 (ix2 k z)) (Fin.ext ?_)))
    show 512 * d.val + (64 * (e.val / 64) + a.val) = (512 * d.val + e.val) / 64 * 64 + a.val
    omega
  · have ha := a.isLt
    exact share_at d x2 b u _ _ _ (by show 512 * d.val + (64 * (e.val / 64) + a.val) = 64 * ((512 * d.val + e.val) / 64) + a.val; omega)

/-- A device's partial product is its share of the reference's sum. -/
theorem part_ref (d : Fin 32) (b : Fin 2) (s : Fin 512) (j : Fin 768) (r : Fin 1024) (hr : r.val = 512 * b.val + s.val) :
    part (insOf x0 x1 x2 x3 x4 d) (ix2 r j) = ∑ e : Fin 512, context x0 x1 x2 x3 b s (col d e) * x4 (ix2 (col d e) j) :=
  (pay45_at _ _ r j).trans (Finset.sum_congr rfl fun e _ => congrArg₂ (· * ·) (ctx_ref x0 x1 x2 x3 x4 d b s e r hr) (wo_at x4 d e j))

/-! ## The devices' shares together -/

/-- A sum over all columns, device by device. -/
theorem sum_cols (f : Fin 16384 → EReal) : ∑ d : Fin 32, ∑ e : Fin 512, f (col d e) = ∑ c : Fin 16384, f c := by
  rw [← Fintype.sum_prod_type']
  refine Fintype.sum_equiv (finProdFinEquiv (m := 32) (n := 512)) _ _ fun p => congrArg f (Fin.ext ?_)
  show 512 * p.1.val + p.2.val = p.2.val + 512 * p.1.val
  omega

/-- A sum over all devices: one device's, and that of each before it. -/
theorem sum_devs (c : Dev nD) (f : Dev nD → EReal) : ∑ d, f d = f c + ∑ k : Fin 31, f (pv c k) := by
  rw [← Finset.add_sum_erase Finset.univ f (Finset.mem_univ c)]
  have h : Finset.univ.erase c = Finset.univ.map ⟨nx c, fun _ _ h => nx_inj c h⟩ := by
    ext d
    simp only [Finset.mem_erase, Finset.mem_univ, _root_.and_true, Finset.mem_map, _root_.true_and, Function.Embedding.coeFn_mk]
    exact ⟨exists_nx c d, fun ⟨k, hk⟩ => hk ▸ nx_ne c k⟩
  rw [h, Finset.sum_map, ← revE.sum_comp]
  exact congrArg (f c + ·) (Finset.sum_congr rfl fun k _ => congrArg f (nx_rev c k))

variable (Pv : Dev nD → PC (F := Ideal))

/-- A slot holds the block that another device sent. -/
theorem slot_at (c : Dev nD) (k : Fin 31) (u : Fin 32) (w : Fin 768) :
    extf .f32 (shapeCast S32x768 (slotV Pv c k) shapeCasts_S1x32x768_S32x768 : FVec Ideal S32x768 .bf16) bitsLt_bf16_f32 (ix2 u w)
      = Pv (pv c k) ((blk c).emb (ix2 u w)) := by
  have h : extf .f32 (shapeCast S32x768 (slotV Pv c k) shapeCasts_S1x32x768_S32x768 : FVec Ideal S32x768 .bf16) bitsLt_bf16_f32 (ix2 u w)
      = slotV Pv c k (ix3 0 u w) := by pointwise
  have e : (slo k).emb (ix3 0 u w) = (ix3 k u w : S31x32x768.Idx) := by
    funext a
    fin_cases a
    · exact Fin.ext ((Rect.emb_apply _ _ _).trans (by show k.val + 1 * 0 = k.val; omega))
    · exact Fin.ext ((Rect.emb_apply _ _ _).trans (by show 0 + 1 * u.val = u.val; omega))
    · exact Fin.ext ((Rect.emb_apply _ _ _).trans (by show 0 + 1 * w.val = w.val; omega))
  refine h.trans ((congrArg (SCR Pv c) e).trans ?_)
  refine congrArg (fun y => Pv (pv c k) ((blk c).emb y)) ?_
  funext a
  fin_cases a <;> rfl

/-- The running sum over the extended reals. -/
theorem acc_at (c : Dev nD) (u : Fin 32) (w : Fin 768) : ∀ (n : ℕ) (h : n ≤ 31),
    acc Pv c n h (ix2 u w) = Pv c ((blk c).emb (ix2 u w)) + ∑ i : Fin n, Pv (pv c ⟨i.val, by have := i.isLt; omega⟩) ((blk c).emb (ix2 u w))
  | 0, _ => by
    rw [Finset.univ_eq_empty, Finset.sum_empty, add_zero]
    rfl
  | n + 1, h => by
    rw [Fin.sum_univ_castSucc, ← add_assoc]
    exact congrArg₂ (· + ·) (acc_at c u w n (Nat.le_of_succ_le h)) (slot_at Pv c ⟨n, h⟩ u w)

/-- The reduction sums the devices' partial products. -/
theorem outOf_at (r : Fin 1024) (j : Fin 768) : outOf Pv (ix2 r j) = ∑ d, Pv d (ix2 r j) := by
  refine (acc_at Pv (rowDev (ix2 r j)) ⟨r.val % 32, Nat.mod_lt _ (by decide)⟩ j 31 (le_refl _)).trans ?_
  refine (sum_devs (rowDev (ix2 r j)) (fun d => Pv d ((blk (rowDev (ix2 r j))).emb (ix2 ⟨r.val % 32, Nat.mod_lt _ (by decide)⟩ j)))).symm.trans ?_
  refine Finset.sum_congr rfl fun d _ => congrArg (Pv d) ?_
  funext a
  fin_cases a
  · exact Fin.ext ((Rect.emb_apply _ _ _).trans (by show 32 * (r.val / 32) + 1 * (r.val % 32) = r.val; omega))
  · exact Fin.ext ((Rect.emb_apply _ _ _).trans (by show 0 + 1 * j.val = j.val; omega))

/-- The whole result, row by row and column by column, is the reference's. -/
theorem out_ref (r : Fin 1024) (j : Fin 768) (b : Fin 2) (s : Fin 512) (hr : r.val = 512 * b.val + s.val) :
    outOf (fun d => part (insOf x0 x1 x2 x3 x4 d)) (ix2 r j)
      = ∑ c : Fin 16384, context x0 x1 x2 x3 b s c * x4 (ix2 c j) := by
  rw [outOf_at, ← sum_cols (fun c => context x0 x1 x2 x3 b s c * x4 (ix2 c j))]
  exact Finset.sum_congr rfl fun d _ => part_ref x0 x1 x2 x3 x4 d b s j r hr

/-- The result as the host hands it back is the reference's. -/
theorem result_ref (m : (ℓ : Loc nD τ sig) → Buf (Elt Ideal) ℓ) (c : Dev nD)
    (hm : ∀ c : Dev nD, m ((c : Thread nD τ).loc main_arg0) = x0
      ∧ m ((c : Thread nD τ).loc main_arg1) = Layout.block ⟨2, ![768, 512]⟩ ⟨2, ![768, 16384]⟩ 1 32 c x1
      ∧ m ((c : Thread nD τ).loc main_arg2) = x2 ∧ m ((c : Thread nD τ).loc main_arg3) = x3
      ∧ m ((c : Thread nD τ).loc main_arg4) = Layout.block ⟨2, ![512, 768]⟩ ⟨2, ![16384, 768]⟩ 0 32 c x4) :
    result m c = Cert.ReferenceIdeal.Read.val_main_v53 (F := Ideal) x0 x1 x2 x3 x4 := by
  have hI : Is (V1 m) = insOf x0 x1 x2 x3 x4 := by
    funext d
    obtain ⟨h0, h1, h2, h3, h4⟩ := hm d
    have e0 : V1 m d main_v17 = (insOf x0 x1 x2 x3 x4 d).x := by rw [host_x, h0]; rfl
    have e1 : V1 m d main_arg1 = (insOf x0 x1 x2 x3 x4 d).wq := ((V1_of m d main_arg1 (by decide)).trans rfl).trans h1
    have e2 : V1 m d main_v10 = (insOf x0 x1 x2 x3 x4 d).k := by rw [host_k, h2]; rfl
    have e3 : V1 m d main_v16 = (insOf x0 x1 x2 x3 x4 d).v := by rw [host_v, h3]; rfl
    have e4 : V1 m d main_arg4 = (insOf x0 x1 x2 x3 x4 d).wo := ((V1_of m d main_arg4 (by decide)).trans rfl).trans h4
    show Ins.mk (V1 m d main_v17) (V1 m d main_arg1) (V1 m d main_v10) (V1 m d main_v16) (V1 m d main_arg4) = _
    rw [e0, e1, e2, e3, e4]
  rw [host_out]
  funext i
  obtain ⟨b, s, j, rfl⟩ : ∃ (b : Fin 2) (s : Fin 512) (j : Fin 768), i = ix3 b s j :=
    ⟨i 0, i 1, i 2, by funext a; fin_cases a <;> rfl⟩
  rw [out_at, ref_out]
  refine Eq.trans ?_ (out_ref x0 x1 x2 x3 x4 ⟨b.val * 512 + s.val, by have := b.isLt; have := s.isLt; omega⟩ j b s (by show b.val * 512 + s.val = 512 * b.val + s.val; omega))
  show outOf (fun d => part (Is (V1 m) d)) _ = _
  rw [hI]

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run _ _ _).mono (fun _ h => ⟨fun c => (h.1 c).2, h.2⟩) (Cert.Attn.run_main m g)

theorem frame_ideal : Cert.quiescent_KernelIdeal (hKernelIdeal := Cert.KernelIdeal.Gen.facts) := fun m g _ =>
  (θ_run _ _ _).mono (fun _ h => ⟨fun c => (h.1 c).2, h.2⟩) (Cert.Attn.run_ideal m g)

theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

theorem algebraic : Cert.algebraic_KernelIdeal_ReferenceIdeal (hKernelIdeal := Cert.KernelIdeal.Gen.facts) (hReferenceIdeal := Cert.ReferenceIdeal.Gen.facts) := by
  intro m g m' g' _ hm
  refine ⟨Cert.ReferenceIdeal.Value.res_main_v53 m' 0, ?_, ?_⟩
  · refine (θ_run _ _ _).mono (fun _ h c => ⟨(h.1 c).1.trans ?_, (h.1 c).2⟩) (Cert.Attn.run_ideal m g)
    exact (Cert.Attn.result_ref _ _ _ _ _ m c hm).trans (Cert.ReferenceIdeal.Read.val_main_v53_eq m' 0).symm
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, algebraic⟩

end Cert.Proof

end
